-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v2_0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v44) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v0_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v0_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v73) = v0 c
          ∧ r.2.mem ((c.tc : Thread Cert.DownRefIdeal.nD Cert.DownRefIdeal.τ).loc Cert.DownRefIdeal.main_v26) = v1 c
          ∧ r.2.mem ((c.tc : Thread Cert.DownRefIdeal.nD Cert.DownRefIdeal.τ).loc Cert.DownRefIdeal.main_v74) = v2 c
          ∧ r.2.mem ((c.tc : Thread Cert.DownRefIdeal.nD Cert.DownRefIdeal.τ).loc Cert.DownRefIdeal.main_v75) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v1_0)) (v1 : (c : Dev Cert.ProjIdeal.nD) → Buf (Elt Ideal) ((c.tc : Thread Cert.ProjIdeal.nD Cert.ProjIdeal.τ).loc Cert.ProjIdeal.main_v1_1)) (v2 : (c : Dev Cert.ProjIdeal.nD) → Buf (Elt Ideal) ((c.tc : Thread Cert.ProjIdeal.nD Cert.ProjIdeal.τ).loc Cert.ProjIdeal.main_v1_2)) (v3 : (c : Dev Cert.ProjIdeal.nD) → Buf (Elt Ideal) ((c.tc : Thread Cert.ProjIdeal.nD Cert.ProjIdeal.τ).loc Cert.ProjIdeal.main_v1_3)) (v4 : (c : Dev Cert.ProjIdeal.nD) → Buf (Elt Ideal) ((c.tc : Thread Cert.ProjIdeal.nD Cert.ProjIdeal.τ).loc Cert.ProjIdeal.main_v1_4)) (v5 : (c : Dev Cert.ProjIdeal.nD) → Buf (Elt Ideal) ((c.tc : Thread Cert.ProjIdeal.nD Cert.ProjIdeal.τ).loc Cert.ProjIdeal.main_v1_5)) (v6 : (c : Dev Cert.ProjIdeal.nD) → Buf (Elt Ideal) ((c.tc : Thread Cert.ProjIdeal.nD Cert.ProjIdeal.τ).loc Cert.ProjIdeal.main_v1_6)) (v7 : (c : Dev Cert.ProjIdeal.nD) → Buf (Elt Ideal) ((c.tc : Thread Cert.ProjIdeal.nD Cert.ProjIdeal.τ).loc Cert.ProjIdeal.main_v1_7)) (v8 : (c : Dev Cert.ProjIdeal.nD) → Buf (Elt Ideal) ((c.tc : Thread Cert.ProjIdeal.nD Cert.ProjIdeal.τ).loc Cert.ProjIdeal.main_v1_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1_0) = v0 c
          ∧ r.2.mem ((c.tc : Thread Cert.ProjIdeal.nD Cert.ProjIdeal.τ).loc Cert.ProjIdeal.main_v1_1) = v1 c
          ∧ r.2.mem ((c.tc : Thread Cert.ProjIdeal.nD Cert.ProjIdeal.τ).loc Cert.ProjIdeal.main_v1_2) = v2 c
          ∧ r.2.mem ((c.tc : Thread Cert.ProjIdeal.nD Cert.ProjIdeal.τ).loc Cert.ProjIdeal.main_v1_3) = v3 c
          ∧ r.2.mem ((c.tc : Thread Cert.ProjIdeal.nD Cert.ProjIdeal.τ).loc Cert.ProjIdeal.main_v1_4) = v4 c
          ∧ r.2.mem ((c.tc : Thread Cert.ProjIdeal.nD Cert.ProjIdeal.τ).loc Cert.ProjIdeal.main_v1_5) = v5 c
          ∧ r.2.mem ((c.tc : Thread Cert.ProjIdeal.nD Cert.ProjIdeal.τ).loc Cert.ProjIdeal.main_v1_6) = v6 c
          ∧ r.2.mem ((c.tc : Thread Cert.ProjIdeal.nD Cert.ProjIdeal.τ).loc Cert.ProjIdeal.main_v1_7) = v7 c
          ∧ r.2.mem ((c.tc : Thread Cert.ProjIdeal.nD Cert.ProjIdeal.τ).loc Cert.ProjIdeal.main_v1_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v73) = v0 c
          ∧ r.2.mem ((c.tc : Thread Cert.ProjRefIdeal.nD Cert.ProjRefIdeal.τ).loc Cert.ProjRefIdeal.main_v26) = v1 c
          ∧ r.2.mem ((c.tc : Thread Cert.ProjRefIdeal.nD Cert.ProjRefIdeal.τ).loc Cert.ProjRefIdeal.main_v117) = v2 c
          ∧ r.2.mem ((c.tc : Thread Cert.ProjRefIdeal.nD Cert.ProjRefIdeal.τ).loc Cert.ProjRefIdeal.main_v118) = v3 c
          ∧ r.2.mem ((c.tc : Thread Cert.ProjRefIdeal.nD Cert.ProjRefIdeal.τ).loc Cert.ProjRefIdeal.main_v113) = v4 c
          ∧ r.2.mem ((c.tc : Thread Cert.ProjRefIdeal.nD Cert.ProjRefIdeal.τ).loc Cert.ProjRefIdeal.main_v124) = v5 c
          ∧ r.2.mem ((c.tc : Thread Cert.ProjRefIdeal.nD Cert.ProjRefIdeal.τ).loc Cert.ProjRefIdeal.main_v125) = v6 c
          ∧ r.2.mem ((c.tc : Thread Cert.ProjRefIdeal.nD Cert.ProjRefIdeal.τ).loc Cert.ProjRefIdeal.main_v126) = v7 c
          ∧ r.2.mem ((c.tc : Thread Cert.ProjRefIdeal.nD Cert.ProjRefIdeal.τ).loc Cert.ProjRefIdeal.main_v116) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hGate : Cert.Gate.Facts) (hGateIdeal : Cert.GateIdeal.Facts) (hGateRefIdeal : Cert.GateRefIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts),
    quiescent_Gate (hGate := hGate)
    ∧ quiescent_GateIdeal (hGateIdeal := hGateIdeal)
    ∧ quiescent_GateRefIdeal (hGateRefIdeal := hGateRefIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ preserves_Gate_GateIdeal
    ∧ algebraic_GateIdeal_GateRefIdeal (hGateIdeal := hGateIdeal) (hGateRefIdeal := hGateRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
-- ==== Gate.lean ====
abbrev S2048x3072 : Shape := ⟨2, ![2048, 3072]⟩
abbrev S2048 : Shape := ⟨1, ![2048]⟩
abbrev S3072x8192 : Shape := ⟨2, ![3072, 8192]⟩
abbrev S96x16384 : Shape := ⟨2, ![96, 16384]⟩
abbrev S2048x1 : Shape := ⟨2, ![2048, 1]⟩
abbrev S2048x128 : Shape := ⟨2, ![2048, 128]⟩
abbrev S2048x8192 : Shape := ⟨2, ![2048, 8192]⟩
abbrev S3072x256 : Shape := ⟨2, ![3072, 256]⟩
abbrev S96x256 : Shape := ⟨2, ![96, 256]⟩
abbrev S2048x256 : Shape := ⟨2, ![2048, 256]⟩
abbrev S3072x512 : Shape := ⟨2, ![3072, 512]⟩
abbrev S32x256 : Shape := ⟨2, ![32, 256]⟩
abbrev S8x256 : Shape := ⟨2, ![8, 256]⟩
abbrev S1x256 : Shape := ⟨2, ![1, 256]⟩
abbrev S256x3072 : Shape := ⟨2, ![256, 3072]⟩
abbrev S256x512 : Shape := ⟨2, ![256, 512]⟩
abbrev S256x128 : Shape := ⟨2, ![256, 128]⟩
abbrev S256x256 : Shape := ⟨2, ![256, 256]⟩

abbrev nBuf : Space → Nat
  | .hbm => 9
  | .vmem => 13
  | .smem => 0
  | _ => 0

abbrev bufTy : (tb : Table) → Fin (tcTables nBuf tb) → BufTy
  | .hbm, ⟨0, _⟩ => ⟨S2048x3072, .bf16⟩
  | .hbm, ⟨1, _⟩ => ⟨S2048, .f32⟩
  | .hbm, ⟨2, _⟩ => ⟨S3072x8192, .i8⟩
  | .hbm, ⟨3, _⟩ => ⟨S96x16384, .f32⟩
  | .hbm, ⟨4, _⟩ => ⟨S2048x1, .f32⟩
  | .hbm, ⟨5, _⟩ => ⟨S2048x128, .f32⟩
  | .hbm, ⟨6, _⟩ => ⟨S2048x8192, .f32⟩
  | .hbm, ⟨7, _⟩ => ⟨S2048x128, .f32⟩
  | .hbm, ⟨8, _⟩ => ⟨S2048x128, .f32⟩
  | .local _ .vmem, ⟨0, _⟩ => ⟨S2048x3072, .bf16⟩
  | .local _ .vmem, ⟨1, _⟩ => ⟨S2048x128, .f32⟩
  | .local _ .vmem, ⟨2, _⟩ => ⟨S3072x256, .i8⟩
  | .local _ .vmem, ⟨3, _⟩ => ⟨S3072x256, .i8⟩
  | .local _ .vmem, ⟨4, _⟩ => ⟨S96x256, .f32⟩
  | .local _ .vmem, ⟨5, _⟩ => ⟨S96x256, .f32⟩
  | .local _ .vmem, ⟨6, _⟩ => ⟨S96x256, .f32⟩
  | .local _ .vmem, ⟨7, _⟩ => ⟨S96x256, .f32⟩
  | .local _ .vmem, ⟨8, _⟩ => ⟨S2048x256, .f32⟩
  | .local _ .vmem, ⟨9, _⟩ => ⟨S2048x256, .f32⟩
  | .local _ .vmem, ⟨10, _⟩ => ⟨S2048x128, .f32⟩
  | .local _ .vmem, ⟨11, _⟩ => ⟨S2048x128, .f32⟩
  | .local _ .vmem, ⟨12, _⟩ => ⟨S3072x512, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3072x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateRefIdeal.lean ====
abbrev S2048x3072 : Shape := ⟨2, ![2048, 3072]⟩
abbrev S2048 : Shape := ⟨1, ![2048]⟩
abbrev S3072x8192 : Shape := ⟨2, ![3072, 8192]⟩
abbrev S96x16384 : Shape := ⟨2, ![96, 16384]⟩
abbrev S_ : Shape := ⟨0, ![]⟩
abbrev S96x8192 : Shape := ⟨2, ![96, 8192]⟩
abbrev S96x32x8192 : Shape := ⟨3, ![96, 32, 8192]⟩
abbrev S2048x8192 : Shape := ⟨2, ![2048, 8192]⟩
abbrev S2048x1 : Shape := ⟨2, ![2048, 1]⟩

abbrev nBuf : Space → Nat
  | .hbm => 57
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048, .f32⟩
  | .hbm, ⟨2, _⟩ => ⟨S3072x8192, .i8⟩
  | .hbm, ⟨3, _⟩ => ⟨S96x16384, .f32⟩
  | .hbm, ⟨4, _⟩ => ⟨S3072x8192, .i32⟩
  | .hbm, ⟨5, _⟩ => ⟨S_, .i32⟩
  | .hbm, ⟨6, _⟩ => ⟨S3072x8192, .i32⟩
  | .hbm, ⟨7, _⟩ => ⟨S3072x8192, .i32⟩
  | .hbm, ⟨8, _⟩ => ⟨S96x8192, .f32⟩
  | .hbm, ⟨9, _⟩ => ⟨S_, .i32⟩
  | .hbm, ⟨10, _⟩ => ⟨S3072x8192, .i32⟩
  | .hbm, ⟨11, _⟩ => ⟨S3072x8192, .i1⟩
  | .hbm, ⟨12, _⟩ => ⟨S_, .i32⟩
  | .hbm, ⟨13, _⟩ => ⟨S3072x8192, .i32⟩
  | .hbm, ⟨14, _⟩ => ⟨S3072x8192, .i32⟩
  | .hbm, ⟨15, _⟩ => ⟨S3072x8192, .i32⟩
  | .hbm, ⟨16, _⟩ => ⟨S3072x8192, .f32⟩
  | .hbm, ⟨17, _⟩ => ⟨S3072x8192, .bf16⟩
  | .hbm, ⟨18, _⟩ => ⟨S96x8192, .bf16⟩
  | .hbm, ⟨19, _⟩ => ⟨S96x32x8192, .bf16⟩
  | .hbm, ⟨20, _⟩ => ⟨S3072x8192, .bf16⟩
  | .hbm, ⟨21, _⟩ => ⟨S3072x8192, .bf16⟩
  | .hbm, ⟨22, _⟩ => ⟨S_, .i32⟩
  | .hbm, ⟨23, _⟩ => ⟨S3072x8192, .i32⟩
  | .hbm, ⟨24, _⟩ => ⟨S3072x8192, .i32⟩
  | .hbm, ⟨25, _⟩ => ⟨S96x8192, .f32⟩
  | .hbm, ⟨26, _⟩ => ⟨S_, .i32⟩
  | .hbm, ⟨27, _⟩ => ⟨S3072x8192, .i32⟩
  | .hbm, ⟨28, _⟩ => ⟨S3072x8192, .i1⟩
  | .hbm, ⟨29, _⟩ => ⟨S_, .i32⟩
  | .hbm, ⟨30, _⟩ => ⟨S3072x8192, .i32⟩
  | .hbm, ⟨31, _⟩ => ⟨S3072x8192, .i32⟩
  | .hbm, ⟨32, _⟩ => ⟨S3072x8192, .i32⟩
  | .hbm, ⟨33, _⟩ => ⟨S3072x8192, .f32⟩
  | .hbm, ⟨34, _⟩ => ⟨S3072x8192, .bf16⟩
  | .hbm, ⟨35, _⟩ => ⟨S96x8192, .bf16⟩
  | .hbm, ⟨36, _⟩ => ⟨S96x32x8192, .bf16⟩
  | .hbm, ⟨37, _⟩ => ⟨S3072x8192, .bf16⟩
  | .hbm, ⟨38, _⟩ => ⟨S3072x8192, .bf16⟩
  | .hbm, ⟨39, _⟩ => ⟨S2048x8192, .f32⟩
  | .hbm, ⟨40, _⟩ => ⟨S2048x8192, .f32⟩
  | .hbm, ⟨41, _⟩ => ⟨S2048x1, .f32⟩
  | .hbm, ⟨42, _⟩ => ⟨S2048x8192, .f32⟩
  | .hbm, ⟨43, _⟩ => ⟨S2048x8192, .f32⟩
  | .hbm, ⟨44, _⟩ => ⟨S2048x1, .f32⟩
  | .hbm, ⟨45, _⟩ => ⟨S2048x8192, .f32⟩
  | .hbm, ⟨46, _⟩ => ⟨S2048x8192, .f32⟩
  | .hbm, ⟨47, _⟩ => ⟨S2048x8192, .f32⟩
  | .hbm, ⟨48, _⟩ => ⟨S2048x8192, .f32⟩
  | .hbm, ⟨49, _⟩ => ⟨S2048x8192, .f32⟩
  | .hbm, ⟨50, _⟩ => ⟨S_, .f32⟩
  | .hbm, ⟨51, _⟩ => ⟨S2048x8192, .f32⟩
  | .hbm, ⟨52, _⟩ => ⟨S2048x8192, .f32⟩
  | .hbm, ⟨53, _⟩ => ⟨S_, .f32⟩
  | .hbm, ⟨54, _⟩ => ⟨S2048x8192, .f32⟩
  | .hbm, ⟨55, _⟩ => ⟨S2048x8192, .f32⟩
  | .hbm, ⟨56, _⟩ => ⟨S2048x8192, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Down.lean ====
abbrev S2048x8192 : Shape := ⟨2, ![2048, 8192]⟩
abbrev S2048x128 : Shape := ⟨2, ![2048, 128]⟩
abbrev S2048x3072 : Shape := ⟨2, ![2048, 3072]⟩
abbrev S8192x1536 : Shape := ⟨2, ![8192, 1536]⟩
abbrev S256x3072 : Shape := ⟨2, ![256, 3072]⟩
abbrev S1x2048 : Shape := ⟨2, ![1, 2048]⟩
abbrev S256x8192 : Shape := ⟨2, ![256, 8192]⟩
abbrev S256x128 : Shape := ⟨2, ![256, 128]⟩
abbrev S256x1536 : Shape := ⟨2, ![256, 1536]⟩
abbrev S2048x1536 : Shape := ⟨2, ![2048, 1536]⟩
abbrev S64x1536 : Shape := ⟨2, ![64, 1536]⟩
abbrev S1x256 : Shape := ⟨2, ![1, 256]⟩
abbrev S32x1536 : Shape := ⟨2, ![32, 1536]⟩
abbrev S8x1536 : Shape := ⟨2, ![8, 1536]⟩
abbrev S1x1536 : Shape := ⟨2, ![1, 1536]⟩
abbrev S256 : Shape := ⟨1, ![256]⟩
abbrev S256x1 : Shape := ⟨2, ![256, 1]⟩
abbrev S128x256 : Shape := ⟨2, ![128, 256]⟩

abbrev nBuf : Space → Nat
  | .hbm => 10
  | .vmem => 21
  | .smem => 0
  | _ => 0

abbrev bufTy : (tb : Table) → Fin (tcTables nBuf tb) → BufTy
  | .hbm, ⟨0, _⟩ => ⟨S2048x8192, .f32⟩
  | .hbm, ⟨1, _⟩ => ⟨S2048x128, .f32⟩
  | .hbm, ⟨2, _⟩ => ⟨S2048x128, .f32⟩
  | .hbm, ⟨3, _⟩ => ⟨S2048x3072, .f32⟩
  | .hbm, ⟨4, _⟩ => ⟨S8192x1536, .i8⟩
  | .hbm, ⟨5, _⟩ => ⟨S256x3072, .f32⟩
  | .hbm, ⟨6, _⟩ => ⟨S2048x3072, .bf16⟩
  | .hbm, ⟨7, _⟩ => ⟨S2048x8192, .i8⟩
  | .hbm, ⟨8, _⟩ => ⟨S1x2048, .f32⟩
  | .hbm, ⟨9, _⟩ => ⟨S1x2048, .i32⟩
  | .local _ .vmem, ⟨0, _⟩ => ⟨S256x8192, .f32⟩
  | .local _ .vmem, ⟨1, _⟩ => ⟨S256x8192, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x1536, .f32⟩
  | .local _ .vmem, ⟨7, _⟩ => ⟨S256x1536, .f32⟩
  | .local _ .vmem, ⟨8, _⟩ => ⟨S2048x1536, .i8⟩
  | .local _ .vmem, ⟨9, _⟩ => ⟨S2048x1536, .i8⟩
  | .local _ .vmem, ⟨10, _⟩ => ⟨S64x1536, .f32⟩
  | .local _ .vmem, ⟨11, _⟩ => ⟨S64x1536, .f32⟩
  | .local _ .vmem, ⟨12, _⟩ => ⟨S256x1536, .bf16⟩
  | .local _ .vmem, ⟨13, _⟩ => ⟨S256x1536, .bf16⟩
  | .local _ .vmem, ⟨14, _⟩ => ⟨S256x8192, .i8⟩
  | .local _ .vmem, ⟨15, _⟩ => ⟨S256x8192, .i8⟩
  | .local _ .vmem, ⟨16, _⟩ => ⟨S1x256, .f32⟩
  | .local _ .vmem, ⟨17, _⟩ => ⟨S1x256, .f32⟩
  | .local _ .vmem, ⟨18, _⟩ => ⟨S1x256, .i32⟩
  | .local _ .vmem, ⟨19, _⟩ => ⟨S1x256, .i32⟩
  | .local _ .vmem, ⟨20, _⟩ => ⟨S8192x1536, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 12], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let arg0 : BitVec 32 := BitVec.ofNat 32 (i 0).val
  let c0_i32 : BitVec 32 := 0#32
  let v1 : BitVec 1 := Scalar.cmpi .eq arg0 c0_i32
  let v2 : BitVec 1 := Scalar.andi v0 v1
  let v3 : BitVec 32 := Scalar.extui v2
  let c0_i32_0 : BitVec 32 := 0#32
  let v4 : BitVec 1 := Scalar.cmpi .ne v3 c0_i32_0
  v4

def k0_off1 (i : grid0.Coords) (c0_i32_9 : BitVec 32) : Fin 2 → Nat :=
  let arg1 : BitVec 32 := BitVec.ofNat 32 (i 1).val
  let c2048_i32 : BitVec 32 := 2048#32
  let v13 : BitVec 32 := Scalar.muli arg1 c2048_i32
  let v28 : BitVec 32 := Scalar.addi v13 c0_i32_9
  let v29 : Index := Scalar.indexCast v28
  let c0_10 : Index := 0#32
  ![v29.toNat, 0]
def k0_cond2 (i : grid0.Coords) : BitVec 1 :=
  let arg1 : BitVec 32 := BitVec.ofNat 32 (i 1).val
  let c4_i32_1 : BitVec 32 := 4#32
  let v5 : BitVec 1 := Scalar.cmpi .slt arg1 c4_i32_1
  let arg0 : BitVec 32 := BitVec.ofNat 32 (i 0).val
  let c1_i32 : BitVec 32 := 1#32
  let v6 : BitVec 1 := Scalar.cmpi .eq arg0 c1_i32
  let v7 : BitVec 1 := Scalar.andi v5 v6
  let v8 : BitVec 32 := Scalar.extui v7
  let c0_i32_2 : BitVec 32 := 0#32
  let v9 : BitVec 1 := Scalar.cmpi .ne v8 c0_i32_2
  v9

def k0_off2 (i : grid0.Coords) (c0_i32_8 : BitVec 32) : Fin 2 → Nat :=
  let arg1 : BitVec 32 := BitVec.ofNat 32 (i 1).val
  let c2048_i32 : BitVec 32 := 2048#32
  let v13 : BitVec 32 := Scalar.muli arg1 c2048_i32
  let v26 : BitVec 32 := Scalar.addi v13 c0_i32_8
  let v27 : Index := Scalar.indexCast v26
  let c0_9 : Index := 0#32
  ![v27.toNat, 0]
def k0_cond3 (i : grid0.Coords) : BitVec 1 :=
  let arg1 : BitVec 32 := BitVec.ofNat 32 (i 1).val
  let c4_i32_3 : BitVec 32 := 4#32
  let v10 : BitVec 1 := Scalar.cmpi .sge arg1 c4_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.subi arg1 c4_i32
  let c0_i32_0 : BitVec 32 := 0#32
  let v2 : BitVec 32 := Scalar.maxsi v1 c0_i32_0
  let c7_i32 : BitVec 32 := 7#32
  let v3 : BitVec 32 := Scalar.select v0 v2 c7_i32
  let c0_i32_1 : BitVec 32 := 0#32
  let c0_i32_2 : BitVec 32 := 0#32
  ![v3.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.subi arg1 c4_i32
  let c0_i32_0 : BitVec 32 := 0#32
  let v2 : BitVec 32 := Scalar.maxsi v1 c0_i32_0
  let c7_i32 : BitVec 32 := 7#32
  let v3 : BitVec 32 := Scalar.select v0 v2 c7_i32
  let c0_i32_1 : BitVec 32 := 0#32
  let c0_i32_2 : BitVec 32 := 0#32
  ![c0_i32_1.toNat, v3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c4_i32 : BitVec 32 := 4#32
  let v1 : BitVec 32 := Scalar.subi arg1 c4_i32
  let c0_i32_0 : BitVec 32 := 0#32
  let v2 : BitVec 32 := Scalar.maxsi v1 c0_i32_0
  let c7_i32 : BitVec 32 := 7#32
  let v3 : BitVec 32 := Scalar.select v0 v2 c7_i32
  let c0_i32_1 : BitVec 32 := 0#32
  let c0_i32_2 : BitVec 32 := 0#32
  ![c0_i32_1.toNat, v3.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1536 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x8192 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DownRefIdeal.lean ====
abbrev S2048x8192 : Shape := ⟨2, ![2048, 8192]⟩
abbrev S2048x128 : Shape := ⟨2, ![2048, 128]⟩
abbrev S2048x3072 : Shape := ⟨2, ![2048, 3072]⟩
abbrev S8192x1536 : Shape := ⟨2, ![8192, 1536]⟩
abbrev S256x3072 : Shape := ⟨2, ![256, 3072]⟩
abbrev S_ : Shape := ⟨0, ![]⟩
abbrev S2048 : Shape := ⟨1, ![2048]⟩
abbrev S2048x1 : Shape := ⟨2, ![2048, 1]⟩
abbrev S256x1536 : Shape := ⟨2, ![256, 1536]⟩
abbrev S256x32x1536 : Shape := ⟨3, ![256, 32, 1536]⟩
abbrev S2048x1536 : Shape := ⟨2, ![2048, 1536]⟩
abbrev S1x2048 : Shape := ⟨2, ![1, 2048]⟩

abbrev nBuf : Space → Nat
  | .hbm => 112
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x128, .f32⟩
  | .hbm, ⟨2, _⟩ => ⟨S2048x128, .f32⟩
  | .hbm, ⟨3, _⟩ => ⟨S2048x3072, .f32⟩
  | .hbm, ⟨4, _⟩ => ⟨S8192x1536, .i8⟩
  | .hbm, ⟨5, _⟩ => ⟨S256x3072, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .i1⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048x1, .f32⟩
  | .hbm, ⟨41, _⟩ => ⟨S2048x8192, .f32⟩
  | .hbm, ⟨42, _⟩ => ⟨S2048x8192, .f32⟩
  | .hbm, ⟨43, _⟩ => ⟨S2048x8192, .f32⟩
  | .hbm, ⟨44, _⟩ => ⟨S2048x1, .f32⟩
  | .hbm, ⟨45, _⟩ => ⟨S2048x8192, .f32⟩
  | .hbm, ⟨46, _⟩ => ⟨S2048x8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2048x8192, .f32⟩
  | .hbm, ⟨51, _⟩ => ⟨S2048x8192, .f32⟩
  | .hbm, ⟨52, _⟩ => ⟨S_, .f32⟩
  | .hbm, ⟨53, _⟩ => ⟨S2048x8192, .f32⟩
  | .hbm, ⟨54, _⟩ => ⟨S2048x8192, .f32⟩
  | .hbm, ⟨55, _⟩ => ⟨S2048x8192, .i32⟩
  | .hbm, ⟨56, _⟩ => ⟨S2048x8192, .i8⟩
  | .hbm, ⟨57, _⟩ => ⟨S2048, .i32⟩
  | .hbm, ⟨58, _⟩ => ⟨S2048x8192, .i32⟩
  | .hbm, ⟨59, _⟩ => ⟨S2048x1, .i32⟩
  | .hbm, ⟨60, _⟩ => ⟨S2048x8192, .i32⟩
  | .hbm, ⟨61, _⟩ => ⟨S2048x8192, .i32⟩
  | .hbm, ⟨62, _⟩ => ⟨S2048x8192, .f32⟩
  | .hbm, ⟨63, _⟩ => ⟨S2048x8192, .bf16⟩
  | .hbm, ⟨64, _⟩ => ⟨S8192x1536, .i32⟩
  | .hbm, ⟨65, _⟩ => ⟨S_, .i32⟩
  | .hbm, ⟨66, _⟩ => ⟨S8192x1536, .i32⟩
  | .hbm, ⟨67, _⟩ => ⟨S8192x1536, .i32⟩
  | .hbm, ⟨68, _⟩ => ⟨S256x1536, .f32⟩
  | .hbm, ⟨69, _⟩ => ⟨S_, .i32⟩
  | .hbm, ⟨70, _⟩ => ⟨S8192x1536, .i32⟩
  | .hbm, ⟨71, _⟩ => ⟨S8192x1536, .i1⟩
  | .hbm, ⟨72, _⟩ => ⟨S_, .i32⟩
  | .hbm, ⟨73, _⟩ => ⟨S8192x1536, .i32⟩
  | .hbm, ⟨74, _⟩ => ⟨S8192x1536, .i32⟩
  | .hbm, ⟨75, _⟩ => ⟨S8192x1536, .i32⟩
  | .hbm, ⟨76, _⟩ => ⟨S8192x1536, .f32⟩
  | .hbm, ⟨77, _⟩ => ⟨S8192x1536, .bf16⟩
  | .hbm, ⟨78, _⟩ => ⟨S256x1536, .bf16⟩
  | .hbm, ⟨79, _⟩ => ⟨S256x32x1536, .bf16⟩
  | .hbm, ⟨80, _⟩ => ⟨S8192x1536, .bf16⟩
  | .hbm, ⟨81, _⟩ => ⟨S8192x1536, .bf16⟩
  | .hbm, ⟨82, _⟩ => ⟨S_, .i32⟩
  | .hbm, ⟨83, _⟩ => ⟨S8192x1536, .i32⟩
  | .hbm, ⟨84, _⟩ => ⟨S8192x1536, .i32⟩
  | .hbm, ⟨85, _⟩ => ⟨S256x1536, .f32⟩
  | .hbm, ⟨86, _⟩ => ⟨S_, .i32⟩
  | .hbm, ⟨87, _⟩ => ⟨S8192x1536, .i32⟩
  | .hbm, ⟨88, _⟩ => ⟨S8192x1536, .i1⟩
  | .hbm, ⟨89, _⟩ => ⟨S_, .i32⟩
  | .hbm, ⟨90, _⟩ => ⟨S8192x1536, .i32⟩
  | .hbm, ⟨91, _⟩ => ⟨S8192x1536, .i32⟩
  | .hbm, ⟨92, _⟩ => ⟨S8192x1536, .i32⟩
  | .hbm, ⟨93, _⟩ => ⟨S8192x1536, .f32⟩
  | .hbm, ⟨94, _⟩ => ⟨S8192x1536, .bf16⟩
  | .hbm, ⟨95, _⟩ => ⟨S256x1536, .bf16⟩
  | .hbm, ⟨96, _⟩ => ⟨S256x32x1536, .bf16⟩
  | .hbm, ⟨97, _⟩ => ⟨S8192x1536, .bf16⟩
  | .hbm, ⟨98, _⟩ => ⟨S8192x1536, .bf16⟩
  | .hbm, ⟨99, _⟩ => ⟨S2048x1536, .f32⟩
  | .hbm, ⟨100, _⟩ => ⟨S2048x1536, .f32⟩
  | .hbm, ⟨101, _⟩ => ⟨S2048x1, .f32⟩
  | .hbm, ⟨102, _⟩ => ⟨S2048x1536, .f32⟩
  | .hbm, ⟨103, _⟩ => ⟨S2048x1536, .f32⟩
  | .hbm, ⟨104, _⟩ => ⟨S2048x1, .f32⟩
  | .hbm, ⟨105, _⟩ => ⟨S2048x1536, .f32⟩
  | .hbm, ⟨106, _⟩ => ⟨S2048x1536, .f32⟩
  | .hbm, ⟨107, _⟩ => ⟨S2048x3072, .f32⟩
  | .hbm, ⟨108, _⟩ => ⟨S2048x3072, .f32⟩
  | .hbm, ⟨109, _⟩ => ⟨S2048x3072, .bf16⟩
  | .hbm, ⟨110, _⟩ => ⟨S1x2048, .f32⟩
  | .hbm, ⟨111, _⟩ => ⟨S1x2048, .i32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_cst_4 : Ref sig .tc := ⟨.hbm, 20, rfl⟩
abbrev main_v9 : Ref sig .tc := ⟨.hbm, 21, rfl⟩
abbrev main_v10 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_cst_7 : Ref sig .tc := ⟨.hbm, 32, rfl⟩
abbrev main_cst_8 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_cst_10 : Ref sig .tc := ⟨.hbm, 48, rfl⟩
abbrev main_call4_v0 : Ref sig .tc := ⟨.hbm, 49, rfl⟩
abbrev main_call4_v1 : Ref sig .tc := ⟨.hbm, 50, rfl⟩
abbrev main_call4_v2 : Ref sig .tc := ⟨.hbm, 51, rfl⟩
abbrev main_call4_v3 : Ref sig .tc := ⟨.hbm, 52, rfl⟩
abbrev main_call4_v4 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_c : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_11 : Ref sig .tc := ⟨.hbm, 69, rfl⟩
abbrev main_v38 : Ref sig .tc := ⟨.hbm, 70, rfl⟩
abbrev main_v39 : Ref sig .tc := ⟨.hbm, 71, rfl⟩
abbrev main_c_12 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_13 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_14 : Ref sig .tc := ⟨.hbm, 86, rfl⟩
abbrev main_v52 : Ref sig .tc := ⟨.hbm, 87, rfl⟩
abbrev main_v53 : Ref sig .tc := ⟨.hbm, 88, rfl⟩
abbrev main_c_15 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]
-- ==== Proj.lean ====
abbrev S2048x3072 : Shape := ⟨2, ![2048, 3072]⟩
abbrev S3072 : Shape := ⟨1, ![3072]⟩
abbrev S3072x1536 : Shape := ⟨2, ![3072, 1536]⟩
abbrev S96x3072 : Shape := ⟨2, ![96, 3072]⟩
abbrev S1x3072 : Shape := ⟨2, ![1, 3072]⟩
abbrev S1x2048 : Shape := ⟨2, ![1, 2048]⟩
abbrev S2048x128 : Shape := ⟨2, ![2048, 128]⟩
abbrev S256x3072 : Shape := ⟨2, ![256, 3072]⟩
abbrev S768x1536 : Shape := ⟨2, ![768, 1536]⟩
abbrev S24x3072 : Shape := ⟨2, ![24, 3072]⟩
abbrev S1x256 : Shape := ⟨2, ![1, 256]⟩
abbrev S256x128 : Shape := ⟨2, ![256, 128]⟩
abbrev S3072x3072 : Shape := ⟨2, ![3072, 3072]⟩
abbrev S32x1536 : Shape := ⟨2, ![32, 1536]⟩
abbrev S8x1536 : Shape := ⟨2, ![8, 1536]⟩
abbrev S24x1536 : Shape := ⟨2, ![24, 1536]⟩
abbrev S1x1536 : Shape := ⟨2, ![1, 1536]⟩
abbrev S256 : Shape := ⟨1, ![256]⟩
abbrev S256x1 : Shape := ⟨2, ![256, 1]⟩
abbrev S128x256 : Shape := ⟨2, ![128, 256]⟩

abbrev nBuf : Space → Nat
  | .hbm => 15
  | .vmem => 28
  | .smem => 0
  | _ => 0

abbrev bufTy : (tb : Table) → Fin (tcTables nBuf tb) → BufTy
  | .hbm, ⟨0, _⟩ => ⟨S2048x3072, .f32⟩
  | .hbm, ⟨1, _⟩ => ⟨S2048x3072, .bf16⟩
  | .hbm, ⟨2, _⟩ => ⟨S3072, .f32⟩
  | .hbm, ⟨3, _⟩ => ⟨S3072x1536, .i8⟩
  | .hbm, ⟨4, _⟩ => ⟨S96x3072, .f32⟩
  | .hbm, ⟨5, _⟩ => ⟨S1x3072, .f32⟩
  | .hbm, ⟨6, _⟩ => ⟨S2048x3072, .f32⟩
  | .hbm, ⟨7, _⟩ => ⟨S2048x3072, .i8⟩
  | .hbm, ⟨8, _⟩ => ⟨S1x2048, .f32⟩
  | .hbm, ⟨9, _⟩ => ⟨S1x2048, .i32⟩
  | .hbm, ⟨10, _⟩ => ⟨S2048x3072, .i8⟩
  | .hbm, ⟨11, _⟩ => ⟨S2048x3072, .bf16⟩
  | .hbm, ⟨12, _⟩ => ⟨S1x2048, .f32⟩
  | .hbm, ⟨13, _⟩ => ⟨S1x2048, .i32⟩
  | .hbm, ⟨14, _⟩ => ⟨S2048x128, .f32⟩
  | .local _ .vmem, ⟨0, _⟩ => ⟨S256x3072, .f32⟩
  | .local _ .vmem, ⟨1, _⟩ => ⟨S256x3072, .f32⟩
  | .local _ .vmem, ⟨2, _⟩ => ⟨S256x3072, .bf16⟩
  | .local _ .vmem, ⟨3, _⟩ => ⟨S256x3072, .bf16⟩
  | .local _ .vmem, ⟨4, _⟩ => ⟨S1x3072, .f32⟩
  | .local _ .vmem, ⟨5, _⟩ => ⟨S768x1536, .i8⟩
  | .local _ .vmem, ⟨6, _⟩ => ⟨S768x1536, .i8⟩
  | .local _ .vmem, ⟨7, _⟩ => ⟨S24x3072, .f32⟩
  | .local _ .vmem, ⟨8, _⟩ => ⟨S24x3072, .f32⟩
  | .local _ .vmem, ⟨9, _⟩ => ⟨S256x3072, .f32⟩
  | .local _ .vmem, ⟨10, _⟩ => ⟨S256x3072, .f32⟩
  | .local _ .vmem, ⟨11, _⟩ => ⟨S256x3072, .i8⟩
  | .local _ .vmem, ⟨12, _⟩ => ⟨S256x3072, .i8⟩
  | .local _ .vmem, ⟨13, _⟩ => ⟨S1x256, .f32⟩
  | .local _ .vmem, ⟨14, _⟩ => ⟨S1x256, .f32⟩
  | .local _ .vmem, ⟨15, _⟩ => ⟨S1x256, .i32⟩
  | .local _ .vmem, ⟨16, _⟩ => ⟨S1x256, .i32⟩
  | .local _ .vmem, ⟨17, _⟩ => ⟨S256x3072, .i8⟩
  | .local _ .vmem, ⟨18, _⟩ => ⟨S256x3072, .i8⟩
  | .local _ .vmem, ⟨19, _⟩ => ⟨S256x3072, .bf16⟩
  | .local _ .vmem, ⟨20, _⟩ => ⟨S256x3072, .bf16⟩
  | .local _ .vmem, ⟨21, _⟩ => ⟨S1x256, .f32⟩
  | .local _ .vmem, ⟨22, _⟩ => ⟨S1x256, .f32⟩
  | .local _ .vmem, ⟨23, _⟩ => ⟨S1x256, .i32⟩
  | .local _ .vmem, ⟨24, _⟩ => ⟨S1x256, .i32⟩
  | .local _ .vmem, ⟨25, _⟩ => ⟨S256x128, .f32⟩
  | .local _ .vmem, ⟨26, _⟩ => ⟨S256x128, .f32⟩
  | .local _ .vmem, ⟨27, _⟩ => ⟨S3072x3072, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v1_6 : Ref sig .tc := ⟨.hbm, 12, rfl⟩
abbrev main_v1_7 : Ref sig .tc := ⟨.hbm, 13, rfl⟩
abbrev main_v1_8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) (c0_i32_8 : BitVec 32) : Fin 2 → Nat :=
  let arg0 : BitVec 32 := BitVec.ofNat 32 (i 0).val
  let c768_i32 : BitVec 32 := 768#32
  let v6 : BitVec 32 := Scalar.muli arg0 c768_i32
  let v22 : BitVec 32 := Scalar.addi v6 c0_i32_8
  let v23 : Index := Scalar.indexCast v22
  let c0_9 : Index := 0#32
  ![v23.toNat, 0]
def k0_off2 (i : grid0.Coords) (c0_i32_202 : BitVec 32) : Fin 2 → Nat :=
  let arg0 : BitVec 32 := BitVec.ofNat 32 (i 0).val
  let c768_i32_194 : BitVec 32 := 768#32
  let v487 : BitVec 32 := Scalar.muli arg0 c768_i32_194
  let v501 : BitVec 32 := Scalar.addi v487 c0_i32_202
  let v502 : Index := Scalar.indexCast v501
  let c1536 : Index := 1536#32
  ![v502.toNat, 1536]
def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_9 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_12 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_13 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x1536 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjRefIdeal.lean ====
abbrev S2048x3072 : Shape := ⟨2, ![2048, 3072]⟩
abbrev S3072 : Shape := ⟨1, ![3072]⟩
abbrev S3072x1536 : Shape := ⟨2, ![3072, 1536]⟩
abbrev S96x3072 : Shape := ⟨2, ![96, 3072]⟩
abbrev S_ : Shape := ⟨0, ![]⟩
abbrev S2048 : Shape := ⟨1, ![2048]⟩
abbrev S2048x1 : Shape := ⟨2, ![2048, 1]⟩
abbrev S96x1536 : Shape := ⟨2, ![96, 1536]⟩
abbrev S96x32x1536 : Shape := ⟨3, ![96, 32, 1536]⟩
abbrev S2048x1536 : Shape := ⟨2, ![2048, 1536]⟩
abbrev S1x3072 : Shape := ⟨2, ![1, 3072]⟩
abbrev S2048x128 : Shape := ⟨2, ![2048, 128]⟩
abbrev S1x2048 : Shape := ⟨2, ![1, 2048]⟩

abbrev nBuf : Space → Nat
  | .hbm => 189
  | .vmem => 0
  | .smem => 0
  | _ => 0

abbrev hbmTy0_0 (i : Nat) : BufTy := match i % 128 with
  | 0 => ⟨S2048x3072, .f32⟩
  | 1 => ⟨S2048x3072, .bf16⟩
  | 2 => ⟨S3072, .f32⟩
  | 3 => ⟨S3072x1536, .i8⟩
  | 4 => ⟨S96x3072, .f32⟩
  | 5 => ⟨S_, .f32⟩
  | 6 => ⟨S2048, .f32⟩
  | 7 => ⟨S_, .f32⟩
  | 8 => ⟨S2048, .f32⟩
  | 9 => ⟨S2048, .f32⟩
  | 10 => ⟨S_, .f32⟩
  | 11 => ⟨S2048, .f32⟩
  | 12 => ⟨S_, .f32⟩
  | 13 => ⟨S2048, .f32⟩
  | 14 => ⟨S2048, .f32⟩
  | 15 => ⟨S2048, .f32⟩
  | 16 => ⟨S_, .f32⟩
  | 17 => ⟨S2048, .f32⟩
  | 18 => ⟨S2048, .i1⟩
  | 19 => ⟨S_, .f32⟩
  | 20 => ⟨S2048, .f32⟩
  | 21 => ⟨S2048, .f32⟩
  | 22 => ⟨S_, .f32⟩
  | 23 => ⟨S_, .f32⟩
  | 24 => ⟨S2048, .f32⟩
  | 25 => ⟨S2048, .f32⟩
  | 26 => ⟨S2048, .f32⟩
  | 27 => ⟨S2048, .f32⟩
  | 28 => ⟨S_, .f32⟩
  | 29 => ⟨S2048, .f32⟩
  | 30 => ⟨S2048, .f32⟩
  | 31 => ⟨S_, .f32⟩
  | 32 => ⟨S_, .f32⟩
  | 33 => ⟨S_, .f32⟩
  | 34 => ⟨S2048, .f32⟩
  | 35 => ⟨S2048, .f32⟩
  | 36 => ⟨S_, .f32⟩
  | 37 => ⟨S2048, .f32⟩
  | 38 => ⟨S2048, .f32⟩
  | 39 => ⟨S2048x1, .f32⟩
  | 40 => ⟨S2048x3072, .f32⟩
  | 41 => ⟨S2048x3072, .f32⟩
  | 42 => ⟨S2048x3072, .f32⟩
  | 43 => ⟨S2048x1, .f32⟩
  | 44 => ⟨S2048x3072, .f32⟩
  | 45 => ⟨S2048x3072, .f32⟩
  | 46 => ⟨S_, .f32⟩
  | 47 => ⟨S_, .f32⟩
  | 48 => ⟨S_, .f32⟩
  | 49 => ⟨S2048x3072, .f32⟩
  | 50 => ⟨S2048x3072, .f32⟩
  | 51 => ⟨S_, .f32⟩
  | 52 => ⟨S2048x3072, .f32⟩
  | 53 => ⟨S2048x3072, .f32⟩
  | 54 => ⟨S2048x3072, .i32⟩
  | 55 => ⟨S2048x3072, .i8⟩
  | 56 => ⟨S2048, .i32⟩
  | 57 => ⟨S2048x3072, .i32⟩
  | 58 => ⟨S2048x1, .i32⟩
  | 59 => ⟨S2048x3072, .i32⟩
  | 60 => ⟨S2048x3072, .i32⟩
  | 61 => ⟨S2048x3072, .f32⟩
  | 62 => ⟨S2048x3072, .bf16⟩
  | 63 => ⟨S3072x1536, .i32⟩
  | 64 => ⟨S_, .i32⟩
  | 65 => ⟨S3072x1536, .i32⟩
  | 66 => ⟨S3072x1536, .i32⟩
  | 67 => ⟨S96x1536, .f32⟩
  | 68 => ⟨S_, .i32⟩
  | 69 => ⟨S3072x1536, .i32⟩
  | 70 => ⟨S3072x1536, .i1⟩
  | 71 => ⟨S_, .i32⟩
  | 72 => ⟨S3072x1536, .i32⟩
  | 73 => ⟨S3072x1536, .i32⟩
  | 74 => ⟨S3072x1536, .i32⟩
  | 75 => ⟨S3072x1536, .f32⟩
  | 76 => ⟨S3072x1536, .bf16⟩
  | 77 => ⟨S96x1536, .bf16⟩
  | 78 => ⟨S96x32x1536, .bf16⟩
  | 79 => ⟨S3072x1536, .bf16⟩
  | 80 => ⟨S3072x1536, .bf16⟩
  | 81 => ⟨S_, .i32⟩
  | 82 => ⟨S3072x1536, .i32⟩
  | 83 => ⟨S3072x1536, .i32⟩
  | 84 => ⟨S96x1536, .f32⟩
  | 85 => ⟨S_, .i32⟩
  | 86 => ⟨S3072x1536, .i32⟩
  | 87 => ⟨S3072x1536, .i1⟩
  | 88 => ⟨S_, .i32⟩
  | 89 => ⟨S3072x1536, .i32⟩
  | 90 => ⟨S3072x1536, .i32⟩
  | 91 => ⟨S3072x1536, .i32⟩
  | 92 => ⟨S3072x1536, .f32⟩
  | 93 => ⟨S3072x1536, .bf16⟩
  | 94 => ⟨S96x1536, .bf16⟩
  | 95 => ⟨S96x32x1536, .bf16⟩
  | 96 => ⟨S3072x1536, .bf16⟩
  | 97 => ⟨S3072x1536, .bf16⟩
  | 98 => ⟨S2048x1536, .f32⟩
  | 99 => ⟨S2048x1536, .f32⟩
  | 100 => ⟨S2048x1, .f32⟩
  | 101 => ⟨S2048x1536, .f32⟩
  | 102 => ⟨S2048x1536, .f32⟩
  | 103 => ⟨S2048x1, .f32⟩
  | 104 => ⟨S2048x1536, .f32⟩
  | 105 => ⟨S2048x1536, .f32⟩
  | 106 => ⟨S2048x3072, .f32⟩
  | 107 => ⟨S2048x3072, .f32⟩
  | 108 => ⟨S2048x3072, .f32⟩
  | 109 => ⟨S2048x3072, .f32⟩
  | 110 => ⟨S_, .f32⟩
  | 111 => ⟨S2048, .f32⟩
  | 112 => ⟨S2048x1, .f32⟩
  | 113 => ⟨S_, .f32⟩
  | 114 => ⟨S2048x1, .f32⟩
  | 115 => ⟨S2048x1, .f32⟩
  | 116 => ⟨S_, .f32⟩
  | 117 => ⟨S2048x1, .f32⟩
  | 118 => ⟨S2048x1, .f32⟩
  | 119 => ⟨S2048x1, .f32⟩
  | 120 => ⟨S2048x3072, .f32⟩
  | 121 => ⟨S2048x3072, .f32⟩
  | 122 => ⟨S1x3072, .f32⟩
  | 123 => ⟨S2048x3072, .f32⟩
  | 124 => ⟨S2048x3072, .f32⟩
  | 125 => ⟨S_, .f32⟩
  | 126 => ⟨S2048, .f32⟩
  | 127 => ⟨S_, .f32⟩
  | _ => ⟨S2048x3072, .f32⟩

abbrev hbmTy0_1 (i : Nat) : BufTy := match i % 128 with
  | 0 => ⟨S2048, .f32⟩
  | 1 => ⟨S2048, .f32⟩
  | 2 => ⟨S_, .f32⟩
  | 3 => ⟨S2048, .f32⟩
  | 4 => ⟨S_, .f32⟩
  | 5 => ⟨S2048, .f32⟩
  | 6 => ⟨S2048, .f32⟩
  | 7 => ⟨S2048, .f32⟩
  | 8 => ⟨S_, .f32⟩
  | 9 => ⟨S2048, .f32⟩
  | 10 => ⟨S2048, .i1⟩
  | 11 => ⟨S_, .f32⟩
  | 12 => ⟨S2048, .f32⟩
  | 13 => ⟨S2048, .f32⟩
  | 14 => ⟨S_, .f32⟩
  | 15 => ⟨S_, .f32⟩
  | 16 => ⟨S2048, .f32⟩
  | 17 => ⟨S2048, .f32⟩
  | 18 => ⟨S2048, .f32⟩
  | 19 => ⟨S2048, .f32⟩
  | 20 => ⟨S_, .f32⟩
  | 21 => ⟨S2048, .f32⟩
  | 22 => ⟨S2048, .f32⟩
  | 23 => ⟨S_, .f32⟩
  | 24 => ⟨S_, .f32⟩
  | 25 => ⟨S_, .f32⟩
  | 26 => ⟨S2048, .f32⟩
  | 27 => ⟨S2048, .f32⟩
  | 28 => ⟨S_, .f32⟩
  | 29 => ⟨S2048, .f32⟩
  | 30 => ⟨S2048, .f32⟩
  | 31 => ⟨S2048x1, .f32⟩
  | 32 => ⟨S2048x3072, .f32⟩
  | 33 => ⟨S2048x3072, .f32⟩
  | 34 => ⟨S2048x3072, .f32⟩
  | 35 => ⟨S2048x1, .f32⟩
  | 36 => ⟨S2048x3072, .f32⟩
  | 37 => ⟨S2048x3072, .f32⟩
  | 38 => ⟨S_, .f32⟩
  | 39 => ⟨S_, .f32⟩
  | 40 => ⟨S_, .f32⟩
  | 41 => ⟨S2048x3072, .f32⟩
  | 42 => ⟨S2048x3072, .f32⟩
  | 43 => ⟨S_, .f32⟩
  | 44 => ⟨S2048x3072, .f32⟩
  | 45 => ⟨S2048x3072, .f32⟩
  | 46 => ⟨S2048x3072, .i32⟩
  | 47 => ⟨S2048x3072, .i8⟩
  | 48 => ⟨S2048, .i32⟩
  | 49 => ⟨S2048x1, .f32⟩
  | 50 => ⟨S2048x128, .f32⟩
  | 51 => ⟨S1x2048, .f32⟩
  | 52 => ⟨S1x2048, .i32⟩
  | 53 => ⟨S2048x3072, .i32⟩
  | 54 => ⟨S2048x1, .i32⟩
  | 55 => ⟨S2048x3072, .i32⟩
  | 56 => ⟨S2048x3072, .i32⟩
  | 57 => ⟨S2048x3072, .f32⟩
  | 58 => ⟨S2048x3072, .bf16⟩
  | 59 => ⟨S1x2048, .f32⟩
  | 60 => ⟨S1x2048, .i32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_cst_5 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_v15 : Ref sig .tc := ⟨.hbm, 30, rfl⟩
abbrev main_cst_7 : Ref sig .tc := ⟨.hbm, 31, rfl⟩
abbrev main_cst_8 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_9 : Ref sig .tc := ⟨.hbm, 46, rfl⟩
abbrev main_cst_10 : Ref sig .tc := ⟨.hbm, 47, rfl⟩
abbrev main_call4_v0 : Ref sig .tc := ⟨.hbm, 48, rfl⟩
abbrev main_call4_v1 : Ref sig .tc := ⟨.hbm, 49, rfl⟩
abbrev main_call4_v2 : Ref sig .tc := ⟨.hbm, 50, rfl⟩
abbrev main_call4_v3 : Ref sig .tc := ⟨.hbm, 51, rfl⟩
abbrev main_call4_v4 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_11 : Ref sig .tc := ⟨.hbm, 68, rfl⟩
abbrev main_v38 : Ref sig .tc := ⟨.hbm, 69, rfl⟩
abbrev main_v39 : Ref sig .tc := ⟨.hbm, 70, rfl⟩
abbrev main_c_12 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_13 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_c_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_16 : Ref sig .tc := ⟨.hbm, 110, rfl⟩
abbrev main_v75 : Ref sig .tc := ⟨.hbm, 111, rfl⟩
abbrev main_v76 : Ref sig .tc := ⟨.hbm, 112, rfl⟩
abbrev main_cst_17 : Ref sig .tc := ⟨.hbm, 113, rfl⟩
abbrev main_v77 : Ref sig .tc := ⟨.hbm, 114, rfl⟩
abbrev main_v78 : Ref sig .tc := ⟨.hbm, 115, rfl⟩
abbrev main_cst_18 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_19 : Ref sig .tc := ⟨.hbm, 125, rfl⟩
abbrev main_v87 : Ref sig .tc := ⟨.hbm, 126, rfl⟩
abbrev main_cst_20 : Ref sig .tc := ⟨.hbm, 127, rfl⟩
abbrev main_v88 : Ref sig .tc := ⟨.hbm, 128, rfl⟩
abbrev main_v89 : Ref sig .tc := ⟨.hbm, 129, rfl⟩
abbrev main_cst_21 : Ref sig .tc := ⟨.hbm, 130, rfl⟩
abbrev main_v90 : Ref sig .tc := ⟨.hbm, 131, rfl⟩
abbrev main_cst_22 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_23 : Ref sig .tc := ⟨.hbm, 136, rfl⟩
abbrev main_v94 : Ref sig .tc := ⟨.hbm, 137, rfl⟩
abbrev main_v95 : Ref sig .tc := ⟨.hbm, 138, rfl⟩
abbrev main_cst_24 : Ref sig .tc := ⟨.hbm, 139, rfl⟩
abbrev main_v96 : Ref sig .tc := ⟨.hbm, 140, rfl⟩
abbrev main_v97 : Ref sig .tc := ⟨.hbm, 141, rfl⟩
abbrev main_cst_25 : Ref sig .tc := ⟨.hbm, 142, rfl⟩
abbrev main_call7_v0 : Ref sig .tc := ⟨.hbm, 143, rfl⟩
abbrev main_call7_v1 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_26 : Ref sig .tc := ⟨.hbm, 148, rfl⟩
abbrev main_v101 : Ref sig .tc := ⟨.hbm, 149, rfl⟩
abbrev main_v102 : Ref sig .tc := ⟨.hbm, 150, rfl⟩
abbrev main_cst_27 : Ref sig .tc := ⟨.hbm, 151, rfl⟩
abbrev main_cst_28 : Ref sig .tc := ⟨.hbm, 152, rfl⟩
abbrev main_call9_v0 : Ref sig .tc := ⟨.hbm, 153, rfl⟩
abbrev main_call9_v1 : Ref sig .tc := ⟨.hbm, 154, rfl⟩
abbrev main_call9_v2 : Ref sig .tc := ⟨.hbm, 155, rfl⟩
abbrev main_call9_v3 : Ref sig .tc := ⟨.hbm, 156, rfl⟩
abbrev main_call9_v4 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_29 : Ref sig .tc := ⟨.hbm, 166, rfl⟩
abbrev main_cst_30 : Ref sig .tc := ⟨.hbm, 167, rfl⟩
abbrev main_call11_v0 : Ref sig .tc := ⟨.hbm, 168, rfl⟩
abbrev main_call11_v1 : Ref sig .tc := ⟨.hbm, 169, rfl⟩
abbrev main_call11_v2 : Ref sig .tc := ⟨.hbm, 170, rfl⟩
abbrev main_call11_v3 : Ref sig .tc := ⟨.hbm, 171, rfl⟩
abbrev main_call11_v4 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩

abbrev nD : Nat := 1
abbrev τ : Topo := Topo.v7x

variable {F : FTy → Type} [FloatOps F]
-- ==== Proof.GateBits.lean ====
/- The gate and up call as a whole run at any float values: it ends, with its arguments unchanged. -/
module

public import proofs.«01_k».proof.Proof.Gen.Gate.Frame
public import proofs.«01_k».proof.Proof.Gen.Gate.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Gate.Own

open Cert.Gate Cert.Gate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S2048x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3072x512 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 4936000 in
/-- The body's triple: on whole staging memrefs — the inputs' at their contents,
    the FORGOTTEN outputs' (5, 6, 7) at anything, handed back at some contents nothing names —
    the body runs to the continuation holding the inputs' as they were, the scratch at some contents: the printed functions are their skeletons (`Gen.*_eq_skeleton`),
    which `sl_exec` runs. -/
theorem kernelRun0_A (c : Dev nD) (i : grid0.Coords) (arg1 : Memref sig .tc .vmem S2048x3072 .bf16) (harg1 : arg1.IsWhole) (arg2 : Memref sig .tc .vmem S2048x128 .f32) (harg2 : arg2.IsWhole) (arg3 : Memref sig .tc .vmem S3072x256 .i8) (harg3 : arg3.IsWhole) (arg4 : Memref sig .tc .vmem S96x256 .f32) (harg4 : arg4.IsWhole) (arg5 : Memref sig .tc .vmem S96x256 .f32) (harg5 : arg5.IsWhole) (arg6 : Memref sig .tc .vmem S2048x256 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S3072x512 .bf16) (harg9 : arg9.IsWhole)
    (x0 : Vec F S2048x3072 .bf16) (x1 : Vec F S2048x128 .f32) (x2 : Vec F S3072x256 .i8) (x3 : Vec F S96x256 .f32) (x4 : Vec F S96x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9) K := by
    intro E K
    simp only [cc0_gate_up_eq_skeleton]; unfold cc0_gate_up_skel
    simp only [k0_part89_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

/-- The output windows this certificate FORGETS (5, 6, 7): nothing reads what the kernel leaves in them, so nothing
    of it is named. -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
   ; nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The run with the arguments as launched. -/
theorem unchanged : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r (h : Pipeline.RDat.FramePost (cfgs 0) (fun c => (dats m 0 c).toRForget forgets0) (V m) r) c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      (Pipeline.RDat.FramePost.arr_in h c 2 rfl).trans ((A_eq m c 2).trans (V_main_arg2 m c)),
      (Pipeline.RDat.FramePost.arr_in h c 4 rfl).trans ((A_eq m c 4).trans (V_main_arg3 m c))⟩)
    (run_main m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Gate.Own

end
-- ==== Proof.GateRun.lean ====
/- The gate and up kernel's body run once, its product named. -/
module

public import proofs.«01_k».proof.Proof.Gen.GateIdeal.Frame
public import proofs.«01_k».proof.Proof.Gen.GateIdeal.Skeleton

@[expose] public section

set_option maxRecDepth 16384

noncomputable section

namespace Cert.GateIdeal.Own

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of output window 5, through which its contents are stated. -/
abbrev VO0_5 : View sig .tc .vmem S2048x256 .f32 := (Memref.whole cc0_stg5_0 : Memref sig .tc .vmem S2048x256 .f32).view
/-- Each window's current staging memref at point `t`, spelled as the pipeline passes it (`bodyAt0`), and its wholeness. -/
abbrev ms0_0 (t : Fin cfg0.N) : Memref sig .tc .vmem S2048x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3072x256 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S3072x512 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 4936000 in
/-- The body of the gate and up kernel as a run: the pieces it leaves in the product's buffer, with the proof that
    from whole staging buffers it ends with the inputs unchanged, those pieces written, and the running minimum, the
    running maximum and the weight scratch at some contents. -/
noncomputable def kernelRun0_A (c : Dev nD) (i : grid0.Coords) (arg1 : Memref sig .tc .vmem S2048x3072 .bf16) (harg1 : arg1.IsWhole) (arg2 : Memref sig .tc .vmem S2048x128 .f32) (harg2 : arg2.IsWhole) (arg3 : Memref sig .tc .vmem S3072x256 .i8) (harg3 : arg3.IsWhole) (arg4 : Memref sig .tc .vmem S96x256 .f32) (harg4 : arg4.IsWhole) (arg5 : Memref sig .tc .vmem S96x256 .f32) (harg5 : arg5.IsWhole) (arg6 : Memref sig .tc .vmem S2048x256 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S3072x512 .bf16) (harg9 : arg9.IsWhole)
    (x0 : Vec F S2048x3072 .bf16) (x1 : Vec F S2048x128 .f32) (x2 : Vec F S3072x256 .i8) (x3 : Vec F S96x256 .f32) (x4 : Vec F S96x256 .f32) :
    { L5 : List (View.Piece (Elt F) S2048x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9) K } := by
  refine ⟨?_, fun E K => ?run⟩
  case run =>
    simp only [cc0_gate_up_eq_skeleton]; unfold cc0_gate_up_skel
    simp only [k0_part89_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _, _; isplitr; swap; · iexact H6
      ipureintro; rfl
    isplitl [H7]
    · iexists _, _; isplitr; swap; · iexact H7
      ipureintro; rfl
    iexists _, _; isplitr; swap; · iexact HS0
    ipureintro; rfl

/-- The product's eight tiles cover its block. -/
theorem cover0_A_5 (c : Dev nD) (i : grid0.Coords) (arg1 : Memref sig .tc .vmem S2048x3072 .bf16) (harg1 : arg1.IsWhole) (arg2 : Memref sig .tc .vmem S2048x128 .f32) (harg2 : arg2.IsWhole) (arg3 : Memref sig .tc .vmem S3072x256 .i8) (harg3 : arg3.IsWhole) (arg4 : Memref sig .tc .vmem S96x256 .f32) (harg4 : arg4.IsWhole) (arg5 : Memref sig .tc .vmem S96x256 .f32) (harg5 : arg5.IsWhole) (arg6 : Memref sig .tc .vmem S2048x256 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S3072x512 .bf16) (harg9 : arg9.IsWhole)
    (x0 : Vec F S2048x3072 .bf16) (x1 : Vec F S2048x128 .f32) (x2 : Vec F S3072x256 .i8) (x3 : Vec F S96x256 .f32) (x4 : Vec F S96x256 .f32) (y : S2048x256.Idx) :
    ∃ pc ∈ (kernelRun0_A c i arg1 harg1 arg2 harg2 arg3 harg3 arg4 harg4 arg5 harg5 arg6 harg6 arg7 harg7 arg8 harg8 arg9 harg9 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).1 S256x256.size (by sl_kernel_rfl) y

/-- What the body leaves in the product's staging buffer. -/
def out0_A_5 (c : Dev nD) (i : grid0.Coords) (arg1 : Memref sig .tc .vmem S2048x3072 .bf16) (harg1 : arg1.IsWhole) (arg2 : Memref sig .tc .vmem S2048x128 .f32) (harg2 : arg2.IsWhole) (arg3 : Memref sig .tc .vmem S3072x256 .i8) (harg3 : arg3.IsWhole) (arg4 : Memref sig .tc .vmem S96x256 .f32) (harg4 : arg4.IsWhole) (arg5 : Memref sig .tc .vmem S96x256 .f32) (harg5 : arg5.IsWhole) (arg6 : Memref sig .tc .vmem S2048x256 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S3072x512 .bf16) (harg9 : arg9.IsWhole)
    (x0 : Vec F S2048x3072 .bf16) (x1 : Vec F S2048x128 .f32) (x2 : Vec F S3072x256 .i8) (x3 : Vec F S96x256 .f32) (x4 : Vec F S96x256 .f32) : Vec F S2048x256 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2 x3 x4).1)

end Cert.GateIdeal.Own

end
-- ==== Proof.GateFrame.lean ====
/- The gate and up call as a whole run: its product's array named, the two running bounds left unnamed. -/
module

public import proofs.«01_k».proof.Proof.GateRun
public import Idealize.ShloMosaic.Lib.Claim

@[expose] public section

set_option maxRecDepth 16384

noncomputable section

namespace Cert.GateIdeal.Own

open Cert.GateIdeal Cert.GateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the product's staging buffer holds after the body at point `t`. -/
def outsAt0 (c : Dev nD) (t : Fin cfg0.N) : Vec F S2048x256 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t)

/-- The output windows this certificate FORGETS (5, 6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt0 m c t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0 out0_A_5
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, ⟨%e5, H5⟩, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _)
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The run with the product's array after it named and the arguments as launched. -/
theorem run_blocks : θ_run defs (onTc (τ := τ) (main (F := F))) ⟨m, fun _ => 0, ρ⟩ fun r => ∀ c : Dev nD,
      r.2.mem ((c : Thread nD τ).loc main_v2_0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r (h : Pipeline.RDat.FramePost (cfgs 0) (fun c => (dats m 0 c).toRForget forgets0) (V m) r) c => ⟨((dats m 0 c).toRForget_arrAt_iff (fgt := forgets0) (w := 5) rfl _ _).mp ((h c).1 5),
      (Pipeline.RDat.FramePost.arr_in h c 0 rfl).trans ((A_eq m c 0).trans (V_main_arg0 m c)),
      ((h c).2 main_arg1 (Pipeline.mem_restRefs_of main_arg1 (by decide) (by decide))).trans (V_main_arg1 m c),
      (Pipeline.RDat.FramePost.arr_in h c 2 rfl).trans ((A_eq m c 2).trans (V_main_arg2 m c)),
      (Pipeline.RDat.FramePost.arr_in h c 4 rfl).trans ((A_eq m c 4).trans (V_main_arg3 m c))⟩)
    (run_main m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run_blocks m ρ)) ((θ_run defs _ _).mono (fun _ h => h.2) (run_main_quiescent m ρ))

end Cert.GateIdeal.Own

end
-- ==== Proof.Nibble.lean ====
/- The packed weights: what the kernel's four-rows-to-a-word nibble extraction computes, one element at a time. -/
module

public import Idealize.ShloMosaic.Lib.BitcastFour
public import Idealize.ShloMosaic.PureOps.Ideal.Laws

@[expose] public section

noncomputable section

namespace Cert.Own

open Idealize.ShloMosaic Idealize.ShloMosaic.ValueIdx

/-- The mask of the high nibble of every byte of a word, read at a bit. -/
theorem mask_getLsbD (q : Nat) (hq : q < 32) : (4042322160#32).getLsbD q = decide (4 ≤ q % 8) := by
  have h : ∀ q : Fin 32, (4042322160#32).getLsbD q.val = decide (4 ≤ q.val % 8) := by decide
  exact h ⟨q, hq⟩

/-- The mask of the high nibble of a byte, read at a bit. -/
theorem mask8_getLsbD (q : Nat) (hq : q < 8) : (240#8).getLsbD q = decide (4 ≤ q) := by
  have h : ∀ q : Fin 8, (240#8).getLsbD q.val = decide (4 ≤ q.val) := by decide
  exact h ⟨q, hq⟩

/-- A bytewise function of words, between the two reinterpretations, is the function of the byte. -/
theorem bytes_apply {R r n : Nat} (x : (⟨2, ![R, n]⟩ : Shape).Idx → BitVec 8) (f : BitVec 32 → BitVec 32) (g : BitVec 8 → BitVec 8)
    (hR : R = 4 * r)
    (hf : ∀ (w : BitVec 32) (b : BitVec 8) (k q : Nat), k < 4 → q < 8 → (∀ q' < 8, w.getLsbD (8 * k + q') = b.getLsbD q') →
      (f w).getLsbD (8 * k + q) = (g b).getLsbD q)
    (h : (⟨2, ![R, n]⟩ : Shape).Bitcasts 8 ⟨2, ![r, n]⟩ 32) (h' : (⟨2, ![r, n]⟩ : Shape).Bitcasts 32 ⟨2, ![R, n]⟩ 8)
    (a : Fin R) (l : Fin n) :
    bitcast ⟨2, ![R, n]⟩ 8 (fun j => f (bitcast ⟨2, ![r, n]⟩ 32 x h j)) h' (ix2 a l) = g (x (ix2 a l)) := by
  have har : a.val / 4 < r := by have := a.isLt; omega
  apply BitVec.eq_of_getLsbD_eq
  intro q hq
  rw [bitcast_getLsbD _ h' _ q hq (by decide)]
  have hrow : (⟨2, ![R, n]⟩ : Shape).row (ix2 a l) = a.val := rfl
  have hsrc : ∀ p hp, p = a.val / 4 → h'.srcIdx (ix2 a l) p hp = ix2 ⟨a.val / 4, har⟩ l := by
    intro p hp e
    funext c
    match c with
    | ⟨0, _⟩ => exact Fin.ext ((h'.srcIdx_row _ _ _ ⟨0, Nat.zero_lt_two⟩ rfl).trans e)
    | ⟨1, _⟩ => exact Fin.ext (h'.srcIdx_other _ _ _ ⟨1, Nat.one_lt_two⟩ (by show ¬ 1 + 2 = 2; omega))
  rw [hsrc _ _ (by rw [hrow]; omega)]
  have hm : ((⟨2, ![R, n]⟩ : Shape).row (ix2 a l) * 8 + q) % 32 = 8 * (a.val % 4) + q := by rw [hrow]; omega
  rw [hm]
  refine hf _ _ _ _ (Nat.mod_lt _ (by decide)) hq fun q' hq' => ?_
  rw [bitcast_8_32_getLsbD_ix2 x h ⟨a.val / 4, har⟩ l (8 * (a.val % 4) + q') (by omega) a (by show a.val = 4 * (a.val / 4) + _; omega)]
  congr 1; omega

/-- The high nibble in place: `w & 0xF0F0F0F0` byte by byte. -/
theorem high_bits (w : BitVec 32) (b : BitVec 8) (k q : Nat) (hk : k < 4) (hq : q < 8)
    (hb : ∀ q' < 8, w.getLsbD (8 * k + q') = b.getLsbD q') :
    (w &&& 4042322160#32).getLsbD (8 * k + q) = (b &&& 240#8).getLsbD q := by
  rw [BitVec.getLsbD_and, BitVec.getLsbD_and, mask_getLsbD _ (by omega), mask8_getLsbD _ hq, hb q hq]
  congr 2; simp; omega

/-- The low nibble raised: `(w << 4) & 0xF0F0F0F0` byte by byte. -/
theorem low_bits (w : BitVec 32) (b : BitVec 8) (k q : Nat) (hk : k < 4) (hq : q < 8)
    (hb : ∀ q' < 8, w.getLsbD (8 * k + q') = b.getLsbD q') :
    ((w <<< 4) &&& 4042322160#32).getLsbD (8 * k + q) = ((b <<< 4) &&& 240#8).getLsbD q := by
  rw [BitVec.getLsbD_and, BitVec.getLsbD_and, mask_getLsbD _ (by omega), mask8_getLsbD _ hq]
  by_cases h4 : 4 ≤ q
  · have e : 8 * k + q - 4 = 8 * k + (q - 4) := by omega
    rw [BitVec.getLsbD_shiftLeft, BitVec.getLsbD_shiftLeft, e, hb (q - 4) (by omega)]
    have h1 : ¬ (8 * k + q < 4) := by omega
    have h2 : ¬ (q < 4) := by omega
    have h3 : 8 * k + q < 32 := by omega
    have h5 : 4 ≤ (8 * k + q) % 8 := by omega
    have h6 : 4 ≤ q % 8 := by omega
    simp [h1, h2, h3, h4, h5, h6, hq]
  · have h5 : ¬ 4 ≤ (8 * k + q) % 8 := by omega
    rw [decide_eq_false h5, decide_eq_false h4, Bool.and_false, Bool.and_false]

/-- The signed low nibble of a byte, as a 32-bit number. -/
def lowNibble (b : BitVec 8) : BitVec 32 :=
  Scalar.select (IntOp.cmpi .sge (IntOp.andi (b.setWidth 32) 15#32) 8#32) (IntOp.subi (IntOp.andi (b.setWidth 32) 15#32) 16#32) (IntOp.andi (b.setWidth 32) 15#32)

/-- The signed high nibble of a byte, as a 32-bit number. -/
def highNibble (b : BitVec 8) : BitVec 32 :=
  Scalar.select (IntOp.cmpi .sge (IntOp.shrsi .host (b.setWidth 32) 4#32) 8#32) (IntOp.subi (IntOp.shrsi .host (b.setWidth 32) 4#32) 16#32) (IntOp.shrsi .host (b.setWidth 32) 4#32)

set_option maxRecDepth 100000 in
theorem low_int : ∀ b : BitVec 8, ((b <<< 4) &&& 240#8).toInt = 16 * (lowNibble b).toInt := by decide +kernel

set_option maxRecDepth 100000 in
theorem high_int : ∀ b : BitVec 8, (b &&& 240#8).toInt = 16 * (highNibble b).toInt := by decide +kernel

/-- Sixteen times the nibble times a sixteenth of the scale is the nibble times the scale. -/
theorem sixteenth (z : ℤ) (s : EReal) : (((16 * z : ℤ) : ℝ) : EReal) * (s * ((1 / 16 : ℝ) : EReal)) = ((z : ℝ) : EReal) * s := by
  rw [mul_comm s, ← mul_assoc, ← EReal.coe_mul]
  congr 2
  push_cast; ring

/-- The gate and up products of a row with the two halves of a column, scaled by the row's step and passed through
    the activation. -/
def glu (g u r : EReal) : EReal := u * r * (g * r) * Ideal.logistic (g * r)

end Cert.Own

end
-- ==== Proof.GatePieces.lean ====
/- The gate and up call: the widened weight the kernel keeps in its scratch, and one tile of its result, element by element. -/
module

public import proofs.«01_k».proof.Proof.Gen.GateIdeal.Skeleton
public import proofs.«01_k».proof.Proof.Nibble
public import Idealize.ShloMosaic.Lib.Pipeline.ValueKit
public import Idealize.ShloMosaic.Lib.IdealHost
public import Idealize.ShloMosaic.Lib.Pointwise

@[expose] public section

set_option maxRecDepth 16384

noncomputable section

namespace Cert.GateIdeal.Own

open Cert.GateIdeal Cert.GateIdeal.Gen Cert.Own
open Idealize.ShloMosaic Idealize.ShloMosaic.TcCoe Idealize.ShloMosaic.Tactic
open Idealize.SL.Sem

/-- One stored group of 32 rows of low nibbles, at an element. -/
theorem low_apply (p : Vec Ideal S32x256 .i8) (s : Vec Ideal S1x256 .f32) (a : Fin 32) (l : Fin 256) :
    k0_pay3 (F := Ideal) p s (ix2 a l) = (((lowNibble (p (ix2 a l))).toInt : ℝ) : EReal) * s (ix2 0 l) := by
  pointwise [k0_pay3]
  rw [Ideal.ofBits_sixteenth_bf16, show bitcast S32x256 8 (andi (shli (bitcast S8x256 32 p bitcasts_S32x256_w8_S8x256_w32) (broadcast S8x256 4#32))
    (broadcast S8x256 4042322160#32)) bitcasts_S8x256_w32_S32x256_w8 (ix2 a l) = (p (ix2 a l) <<< 4) &&& 240#8 from
      bytes_apply p (fun w => (w <<< 4) &&& 4042322160#32) (fun b => (b <<< 4) &&& 240#8) rfl low_bits _ _ a l]
  refine (congrArg (· * _) ?_).trans (sixteenth (lowNibble (p (ix2 a l))).toInt (s (ix2 0 l)))
  exact congrArg (fun z : ℤ => ((z : ℝ) : EReal)) (low_int (p (ix2 a l)))

/-- One stored group of 32 rows of high nibbles, at an element. -/
theorem high_apply (p : Vec Ideal S32x256 .i8) (s : Vec Ideal S1x256 .f32) (a : Fin 32) (l : Fin 256) :
    k0_pay280 (F := Ideal) p s (ix2 a l) = (((highNibble (p (ix2 a l))).toInt : ℝ) : EReal) * s (ix2 0 l) := by
  pointwise [k0_pay280]
  rw [Ideal.ofBits_sixteenth_bf16, show bitcast S32x256 8 (andi (bitcast S8x256 32 p bitcasts_S32x256_w8_S8x256_w32)
    (broadcast S8x256 4042322160#32)) bitcasts_S8x256_w32_S32x256_w8 (ix2 a l) = p (ix2 a l) &&& 240#8 from
      bytes_apply p (fun w => w &&& 4042322160#32) (fun b => b &&& 240#8) rfl high_bits _ _ a l]
  refine (congrArg (· * _) ?_).trans (sixteenth (highNibble (p (ix2 a l))).toInt (s (ix2 0 l)))
  exact congrArg (fun z : ℤ => ((z : ℝ) : EReal)) (high_int (p (ix2 a l)))

/-- One tile of 256 rows of the result, at an element. -/
theorem tile_apply (a : Vec Ideal S256x3072 .bf16) (w : Vec Ideal S3072x512 .bf16) (r : Vec Ideal S256x128 .f32) (i : Fin 256) (l : Fin 256)
    (l' : Fin 128) (h : l'.val = l.val % 128) :
    k0_pay310 (F := Ideal) a w r (ix2 i l)
      = glu (∑ k : Fin 3072, a (ix2 i k) * w (ix2 k ⟨l.val, by omega⟩)) (∑ k : Fin 3072, a (ix2 i k) * w (ix2 k ⟨256 + l.val, by omega⟩)) (r (ix2 i l')) := by
  pointwise [k0_pay310]
  have e : (if h : l.val < 128 then r (ix2 i ⟨l.val, h⟩) else r (ix2 i ⟨l.val - 128, by omega⟩)) = r (ix2 i l') := by
    by_cases hl : l.val < 128
    · rw [dif_pos hl]; congr 2; apply Fin.ext; show l.val = l'.val; omega
    · rw [dif_neg hl]; congr 2; apply Fin.ext; show l.val - 128 = l'.val; omega
  unfold glu
  rw [← e]

/-- The widened weight: the low nibbles with their scales on the left, the high nibbles with theirs on the right. -/
def wval (X2 : Vec Ideal S3072x256 .i8) (X3 X4 : Vec Ideal S96x256 .f32) (k : Fin 3072) (l : Fin 512) : EReal :=
  if h : l.val < 256 then (((lowNibble (X2 (ix2 k ⟨l.val, h⟩))).toInt : ℝ) : EReal) * X3 (ix2 ⟨k.val / 32, by omega⟩ ⟨l.val, h⟩)
  else (((highNibble (X2 (ix2 k ⟨l.val - 256, by omega⟩))).toInt : ℝ) : EReal) * X4 (ix2 ⟨k.val / 32, by omega⟩ ⟨l.val - 256, by omega⟩)

/-- A group of 32 rows of the left half, as the kernel stores it. -/
def lowPiece (X2 : Vec Ideal S3072x256 .i8) (X3 : Vec Ideal S96x256 .f32) (g : Fin 96) : View.Piece (Elt Ideal) S3072x512 .bf16 :=
  ⟨Rect.unit ![32 * (95 - g.val), 0] ![32, 256] (by have := g.isLt; intro a; match a with | ⟨0, _⟩ => show 32 * (95 - g.val) + 32 ≤ 3072; omega | ⟨1, _⟩ => show 0 + 256 ≤ 512; omega),
    k0_pay3 (F := Ideal)
      (fun x => X2 ((Rect.unit (s := S3072x256) ![32 * (95 - g.val), 0] ![32, 256] (by have := g.isLt; intro a; match a with | ⟨0, _⟩ => show 32 * (95 - g.val) + 32 ≤ 3072; omega | ⟨1, _⟩ => show 0 + 256 ≤ 256; omega)).idx x))
      (fun x => X3 ((Rect.unit (s := S96x256) ![95 - g.val, 0] ![1, 256] (by have := g.isLt; intro a; match a with | ⟨0, _⟩ => show 95 - g.val + 1 ≤ 96; omega | ⟨1, _⟩ => show 0 + 256 ≤ 256; omega)).idx x))⟩

/-- A group of 32 rows of the right half, as the kernel stores it. -/
def highPiece (X2 : Vec Ideal S3072x256 .i8) (X4 : Vec Ideal S96x256 .f32) (g : Fin 96) : View.Piece (Elt Ideal) S3072x512 .bf16 :=
  ⟨Rect.unit ![32 * (95 - g.val), 256] ![32, 256] (by have := g.isLt; intro a; match a with | ⟨0, _⟩ => show 32 * (95 - g.val) + 32 ≤ 3072; omega | ⟨1, _⟩ => show 256 + 256 ≤ 512; omega),
    k0_pay280 (F := Ideal)
      (fun x => X2 ((Rect.unit (s := S3072x256) ![32 * (95 - g.val), 0] ![32, 256] (by have := g.isLt; intro a; match a with | ⟨0, _⟩ => show 32 * (95 - g.val) + 32 ≤ 3072; omega | ⟨1, _⟩ => show 0 + 256 ≤ 256; omega)).idx x))
      (fun x => X4 ((Rect.unit (s := S96x256) ![95 - g.val, 0] ![1, 256] (by have := g.isLt; intro a; match a with | ⟨0, _⟩ => show 95 - g.val + 1 ≤ 96; omega | ⟨1, _⟩ => show 0 + 256 ≤ 256; omega)).idx x))⟩

/-- The stores that make the widened weight, last first. -/
def wpieces (X2 : Vec Ideal S3072x256 .i8) (X3 X4 : Vec Ideal S96x256 .f32) : List (View.Piece (Elt Ideal) S3072x512 .bf16) :=
  (List.finRange 96).map (highPiece X2 X4) ++ (List.finRange 96).map (lowPiece X2 X3)

theorem lowPiece_apply (X2 : Vec Ideal S3072x256 .i8) (X3 X4 : Vec Ideal S96x256 .f32) (g : Fin 96) (x : (lowPiece X2 X3 g).1.shape.Idx) :
    (lowPiece X2 X3 g).2 x = wval X2 X3 X4 ((lowPiece X2 X3 g).1.emb x 0) ((lowPiece X2 X3 g).1.emb x 1) := by
  have hg := g.isLt
  obtain ⟨a, l, rfl⟩ : ∃ (a : Fin 32) (l : Fin 256), x = ix2 a l := ⟨x 0, x 1, eq_ix2 x⟩
  refine (low_apply _ _ a l).trans ?_
  have e0 : ((lowPiece X2 X3 g).1.emb (ix2 a l) 0).val = 32 * (95 - g.val) + 1 * a.val := rfl
  have e1 : ((lowPiece X2 X3 g).1.emb (ix2 a l) 1).val = 0 + 1 * l.val := rfl
  generalize (lowPiece X2 X3 g).1.emb (ix2 a l) 0 = k at e0
  generalize (lowPiece X2 X3 g).1.emb (ix2 a l) 1 = c at e1
  have ha := a.isLt
  have hl := l.isLt
  unfold wval
  rw [dif_pos (show c.val < 256 by omega)]
  refine congrArg₂ (fun (b : BitVec 8) (s : EReal) => (((lowNibble b).toInt : ℝ) : EReal) * s) (congrArg X2 ?_) (congrArg X3 ?_)
  · funext b
    match b with
    | ⟨0, _⟩ => exact Fin.ext (show 32 * (95 - g.val) + 1 * a.val = k.val by omega)
    | ⟨1, _⟩ => exact Fin.ext (show 0 + 1 * l.val = c.val by omega)
  · funext b
    match b with
    | ⟨0, _⟩ => exact Fin.ext (show 95 - g.val + 1 * 0 = k.val / 32 by omega)
    | ⟨1, _⟩ => exact Fin.ext (show 0 + 1 * l.val = c.val by omega)

theorem highPiece_apply (X2 : Vec Ideal S3072x256 .i8) (X3 X4 : Vec Ideal S96x256 .f32) (g : Fin 96) (x : (highPiece X2 X4 g).1.shape.Idx) :
    (highPiece X2 X4 g).2 x = wval X2 X3 X4 ((highPiece X2 X4 g).1.emb x 0) ((highPiece X2 X4 g).1.emb x 1) := by
  have hg := g.isLt
  obtain ⟨a, l, rfl⟩ : ∃ (a : Fin 32) (l : Fin 256), x = ix2 a l := ⟨x 0, x 1, eq_ix2 x⟩
  refine (high_apply _ _ a l).trans ?_
  have e0 : ((highPiece X2 X4 g).1.emb (ix2 a l) 0).val = 32 * (95 - g.val) + 1 * a.val := rfl
  have e1 : ((highPiece X2 X4 g).1.emb (ix2 a l) 1).val = 256 + 1 * l.val := rfl
  generalize (highPiece X2 X4 g).1.emb (ix2 a l) 0 = k at e0
  generalize (highPiece X2 X4 g).1.emb (ix2 a l) 1 = c at e1
  have ha := a.isLt
  have hl := l.isLt
  unfold wval
  rw [dif_neg (show ¬ c.val < 256 by omega)]
  refine congrArg₂ (fun (b : BitVec 8) (s : EReal) => (((highNibble b).toInt : ℝ) : EReal) * s) (congrArg X2 ?_) (congrArg X4 ?_)
  · funext b
    match b with
    | ⟨0, _⟩ => exact Fin.ext (show 32 * (95 - g.val) + 1 * a.val = k.val by omega)
    | ⟨1, _⟩ => exact Fin.ext (show 0 + 1 * l.val = c.val - 256 by omega)
  · funext b
    match b with
    | ⟨0, _⟩ => exact Fin.ext (show 95 - g.val + 1 * 0 = k.val / 32 by omega)
    | ⟨1, _⟩ => exact Fin.ext (show 0 + 1 * l.val = c.val - 256 by omega)

/-- Every element of the scratch lies in one of the stored groups. -/
theorem wpieces_cover (X2 : Vec Ideal S3072x256 .i8) (X3 X4 : Vec Ideal S96x256 .f32) (y : S3072x512.Idx) : ∃ p ∈ wpieces X2 X3 X4, y ∈ p.1.set := by
  have h0 : (y 0).val < 3072 := (y 0).isLt
  have h1 : (y 1).val < 512 := (y 1).isLt
  by_cases h : (y 1).val < 256
  · refine ⟨lowPiece X2 X3 ⟨95 - (y 0).val / 32, by omega⟩, List.mem_append_right _ (List.mem_map_of_mem (List.mem_finRange _)), ?_⟩
    have e : y = (lowPiece X2 X3 ⟨95 - (y 0).val / 32, by omega⟩).1.idx (ix2 ⟨(y 0).val % 32, by omega⟩ ⟨(y 1).val, h⟩ : S32x256.Idx) := by
      funext b
      match b with
      | ⟨0, _⟩ => exact Fin.ext (show (y 0).val = 32 * (95 - (95 - (y 0).val / 32)) + 1 * ((y 0).val % 32) by omega)
      | ⟨1, _⟩ => exact Fin.ext (show (y 1).val = 0 + 1 * (y 1).val by omega)
    exact Eq.mpr (congrArg (· ∈ _) e) (LoadRect.idx_mem _ _)
  · refine ⟨highPiece X2 X4 ⟨95 - (y 0).val / 32, by omega⟩, List.mem_append_left _ (List.mem_map_of_mem (List.mem_finRange _)), ?_⟩
    have e : y = (highPiece X2 X4 ⟨95 - (y 0).val / 32, by omega⟩).1.idx (ix2 ⟨(y 0).val % 32, by omega⟩ ⟨(y 1).val - 256, by omega⟩ : S32x256.Idx) := by
      funext b
      match b with
      | ⟨0, _⟩ => exact Fin.ext (show (y 0).val = 32 * (95 - (95 - (y 0).val / 32)) + 1 * ((y 0).val % 32) by omega)
      | ⟨1, _⟩ => exact Fin.ext (show (y 1).val = 256 + 1 * ((y 1).val - 256) by omega)
    exact Eq.mpr (congrArg (· ∈ _) e) (LoadRect.idx_mem _ _)

/-- The whole scratch read back after those stores is the widened weight. -/
theorem scratch_eq (v : View sig .tc .vmem S3072x512 .bf16) (X2 : Vec Ideal S3072x256 .i8) (X3 X4 : Vec Ideal S96x256 .f32)
    (L : List (View.Piece (Elt Ideal) S3072x512 .bf16)) (hL : L = wpieces X2 X3 X4)
    (inb : ∀ a, (![0, 0] : Fin 2 → ℕ) a + (![3072, 512] : Fin 2 → ℕ) a ≤ S3072x512.size a) (k : Fin 3072) (l : Fin 512) :
    v.readCov L (Rect.unit (s := S3072x512) ![0, 0] ![3072, 512] inb).toLoadRect (ix2 k l) = wval X2 X3 X4 k l := by
  subst hL
  rw [View.readCov_eq_canon']
  have hi : (Rect.unit (s := S3072x512) ![0, 0] ![3072, 512] inb).toLoadRect.idx (ix2 k l) = ix2 k l := by
    funext b
    match b with
    | ⟨0, _⟩ => exact Fin.ext (show 0 + 1 * k.val = k.val by omega)
    | ⟨1, _⟩ => exact Fin.ext (show 0 + 1 * l.val = l.val by omega)
  show View.canon (wpieces X2 X3 X4) ((Rect.unit (s := S3072x512) ![0, 0] ![3072, 512] inb).toLoadRect.idx (ix2 k l)) = _
  rw [hi]
  refine View.canon_apply_of_pieces (Val := Elt Ideal) (fun y => wval X2 X3 X4 (y 0) (y 1)) _ ?_ _ (wpieces_cover X2 X3 X4 _)
  intro p hp x
  rcases List.mem_append.mp hp with h | h
  · obtain ⟨g, -, rfl⟩ := List.mem_map.mp h
    exact highPiece_apply X2 X3 X4 g x
  · obtain ⟨g, -, rfl⟩ := List.mem_map.mp h
    exact lowPiece_apply X2 X3 X4 g x

/-- A tile of 256 rows of the result, as the kernel stores it. -/
def tilePiece (X0 : Vec Ideal S2048x3072 .bf16) (X1 : Vec Ideal S2048x128 .f32) (W : Vec Ideal S3072x512 .bf16) (g : Fin 8) :
    View.Piece (Elt Ideal) S2048x256 .f32 :=
  ⟨Rect.unit ![256 * (7 - g.val), 0] ![256, 256] (by have := g.isLt; intro a; match a with | ⟨0, _⟩ => show 256 * (7 - g.val) + 256 ≤ 2048; omega | ⟨1, _⟩ => show 0 + 256 ≤ 256; omega),
    k0_pay310 (F := Ideal)
      (fun x => X0 ((Rect.unit (s := S2048x3072) ![256 * (7 - g.val), 0] ![256, 3072] (by have := g.isLt; intro a; match a with | ⟨0, _⟩ => show 256 * (7 - g.val) + 256 ≤ 2048; omega | ⟨1, _⟩ => show 0 + 3072 ≤ 3072; omega)).idx x)) W
      (fun x => X1 ((Rect.unit (s := S2048x128) ![256 * (7 - g.val), 0] ![256, 128] (by have := g.isLt; intro a; match a with | ⟨0, _⟩ => show 256 * (7 - g.val) + 256 ≤ 2048; omega | ⟨1, _⟩ => show 0 + 128 ≤ 128; omega)).idx x))⟩

/-- The block of the result one grid step computes. -/
def oval (X0 : Vec Ideal S2048x3072 .bf16) (X1 : Vec Ideal S2048x128 .f32) (W : Vec Ideal S3072x512 .bf16) (i : Fin 2048) (l : Fin 256) : EReal :=
  glu (∑ k : Fin 3072, X0 (ix2 i k) * W (ix2 k ⟨l.val, by omega⟩)) (∑ k : Fin 3072, X0 (ix2 i k) * W (ix2 k ⟨256 + l.val, by omega⟩)) (X1 (ix2 i ⟨l.val % 128, by omega⟩))

theorem tilePiece_apply (X0 : Vec Ideal S2048x3072 .bf16) (X1 : Vec Ideal S2048x128 .f32) (W : Vec Ideal S3072x512 .bf16) (g : Fin 8)
    (x : (tilePiece X0 X1 W g).1.shape.Idx) :
    (tilePiece X0 X1 W g).2 x = oval X0 X1 W ((tilePiece X0 X1 W g).1.emb x 0) ((tilePiece X0 X1 W g).1.emb x 1) := by
  have hg := g.isLt
  obtain ⟨a, l, rfl⟩ : ∃ (a : Fin 256) (l : Fin 256), x = ix2 a l := ⟨x 0, x 1, eq_ix2 x⟩
  refine (tile_apply _ _ _ a l ⟨l.val % 128, by omega⟩ rfl).trans ?_
  have e0 : ((tilePiece X0 X1 W g).1.emb (ix2 a l) 0).val = 256 * (7 - g.val) + 1 * a.val := rfl
  have e1 : ((tilePiece X0 X1 W g).1.emb (ix2 a l) 1).val = 0 + 1 * l.val := rfl
  generalize (tilePiece X0 X1 W g).1.emb (ix2 a l) 0 = k at e0
  generalize (tilePiece X0 X1 W g).1.emb (ix2 a l) 1 = c at e1
  have ec : c = l := Fin.ext (by omega)
  subst ec
  unfold oval
  have hk : ∀ z : Fin 3072, (Rect.unit (s := S2048x3072) ![256 * (7 - g.val), 0] ![256, 3072] (by have := g.isLt; intro a; match a with | ⟨0, _⟩ => show 256 * (7 - g.val) + 256 ≤ 2048; omega | ⟨1, _⟩ => show 0 + 3072 ≤ 3072; omega)).idx (ix2 a z) = ix2 k z := by
    intro z
    funext b
    match b with
    | ⟨0, _⟩ => exact Fin.ext (show 256 * (7 - g.val) + 1 * a.val = k.val by omega)
    | ⟨1, _⟩ => exact Fin.ext (show 0 + 1 * z.val = z.val by omega)
  have hr : ∀ z : Fin 128, (Rect.unit (s := S2048x128) ![256 * (7 - g.val), 0] ![256, 128] (by have := g.isLt; intro a; match a with | ⟨0, _⟩ => show 256 * (7 - g.val) + 256 ≤ 2048; omega | ⟨1, _⟩ => show 0 + 128 ≤ 128; omega)).idx (ix2 a z) = ix2 k z := by
    intro z
    funext b
    match b with
    | ⟨0, _⟩ => exact Fin.ext (show 256 * (7 - g.val) + 1 * a.val = k.val by omega)
    | ⟨1, _⟩ => exact Fin.ext (show 0 + 1 * z.val = z.val by omega)
  simp only [hk, hr]
  rfl

/-- The stores of a block of the result, last first. -/
def tiles (X0 : Vec Ideal S2048x3072 .bf16) (X1 : Vec Ideal S2048x128 .f32) (W : Vec Ideal S3072x512 .bf16) : List (View.Piece (Elt Ideal) S2048x256 .f32) :=
  (List.finRange 8).map (tilePiece X0 X1 W)

theorem tiles_canon (X0 : Vec Ideal S2048x3072 .bf16) (X1 : Vec Ideal S2048x128 .f32) (W : Vec Ideal S3072x512 .bf16)
    (L : List (View.Piece (Elt Ideal) S2048x256 .f32)) (hL : L = tiles X0 X1 W) (y : S2048x256.Idx) :
    View.canon L y = oval X0 X1 W (y 0) (y 1) := by
  subst hL
  refine View.canon_apply_of_pieces (Val := Elt Ideal) (S := S2048x256) (e := .f32) (fun y => oval X0 X1 W (y 0) (y 1)) _ ?_ y ?_
  · intro p hp x
    obtain ⟨g, -, rfl⟩ := List.mem_map.mp hp
    exact tilePiece_apply X0 X1 W g x
  · have h0 : (y 0).val < 2048 := (y 0).isLt
    have h1 : (y 1).val < 256 := (y 1).isLt
    refine ⟨tilePiece X0 X1 W ⟨7 - (y 0).val / 256, by omega⟩, List.mem_map_of_mem (List.mem_finRange _), ?_⟩
    have e : y = (tilePiece X0 X1 W ⟨7 - (y 0).val / 256, by omega⟩).1.idx (ix2 ⟨(y 0).val % 256, by omega⟩ ⟨(y 1).val, h1⟩ : S256x256.Idx) := by
      funext b
      match b with
      | ⟨0, _⟩ => exact Fin.ext (show (y 0).val = 256 * (7 - (7 - (y 0).val / 256)) + 1 * ((y 0).val % 256) by omega)
      | ⟨1, _⟩ => exact Fin.ext (show (y 1).val = 0 + 1 * (y 1).val by omega)
    exact Eq.mpr (congrArg (· ∈ _) e) (LoadRect.idx_mem _ _)

end Cert.GateIdeal.Own

end
-- ==== Proof.GateRefValue.lean ====
/- The gate and up reference, element by element. -/
module

public import proofs.«01_k».proof.Proof.Gen.GateRefIdeal.Read
public import proofs.«01_k».proof.Proof.Nibble
public import Idealize.ShloMosaic.Lib.Pointwise

@[expose] public section

set_option maxRecDepth 16384

noncomputable section

namespace Cert.GateRefIdeal.Own

open Cert.GateRefIdeal Cert.GateRefIdeal.Read Cert.Own
open Idealize.ShloMosaic Idealize.ShloMosaic.TcCoe Idealize.ShloMosaic.Tactic
open Idealize.SL.Sem

/-- The low nibble of a code times its scale. -/
theorem low_apply (x2 : Vec Ideal S3072x8192 .i8) (x3 : Vec Ideal S96x16384 .f32) (k : Fin 3072) (n : Fin 8192) :
    val_main_v14 (F := Ideal) x2 x3 (ix2 k n)
      = (((lowNibble (x2 (ix2 k n))).toInt : ℝ) : EReal) * x3 (ix2 ⟨k.val / 32, by omega⟩ ⟨n.val, by omega⟩) := by
  pointwise [val_main_v14, val_main_v10, val_main_v9, val_main_v8, val_main_v7, val_main_v6, val_main_v5, val_main_v4, val_main_v3, val_main_v2, val_main_v1, val_main_v0, val_main_v11, val_main_v12, val_main_v13, val_main_c, val_main_c_0, val_main_c_1]
  rfl

/-- The high nibble of a code times its scale. -/
theorem high_apply (x2 : Vec Ideal S3072x8192 .i8) (x3 : Vec Ideal S96x16384 .f32) (k : Fin 3072) (n : Fin 8192) :
    val_main_v28 (F := Ideal) x2 x3 (ix2 k n)
      = (((highNibble (x2 (ix2 k n))).toInt : ℝ) : EReal) * x3 (ix2 ⟨k.val / 32, by omega⟩ ⟨8192 + n.val, by omega⟩) := by
  pointwise [val_main_v28, val_main_v27, val_main_v26, val_main_v25, val_main_v24, val_main_v23, val_main_v22, val_main_v21, val_main_v20, val_main_v19, val_main_v18, val_main_v17, val_main_v16, val_main_v15, val_main_v0, val_main_c_2, val_main_c_3, val_main_c_4]
  rfl

/-- The result: the two products, the row step, the activation. -/
theorem ref_apply (x0 : Vec Ideal S2048x3072 .bf16) (x1 : Vec Ideal S2048 .f32) (x2 : Vec Ideal S3072x8192 .i8) (x3 : Vec Ideal S96x16384 .f32) (i : Fin 2048) (n : Fin 8192) :
    val_main_v44 (F := Ideal) x0 x1 x2 x3 (ix2 i n)
      = glu (∑ k : Fin 3072, x0 (ix2 i k) * ((((lowNibble (x2 (ix2 k n))).toInt : ℝ) : EReal) * x3 (ix2 ⟨k.val / 32, by omega⟩ ⟨n.val, by omega⟩)))
          (∑ k : Fin 3072, x0 (ix2 i k) * ((((highNibble (x2 (ix2 k n))).toInt : ℝ) : EReal) * x3 (ix2 ⟨k.val / 32, by omega⟩ ⟨8192 + n.val, by omega⟩))) (x1 (ix1 i)) := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_cst, val_main_cst_5]
  simp only [low_apply, high_apply]
  rfl

end Cert.GateRefIdeal.Own

end
-- ==== Proof.GateValue.lean ====
/- The gate and up call: the array the kernel leaves, element by element. -/
module

public import proofs.«01_k».proof.Proof.GateFrame
public import proofs.«01_k».proof.Proof.GatePieces
public import proofs.«01_k».proof.Proof.GateRefValue

@[expose] public section

set_option maxRecDepth 16384

noncomputable section

namespace Cert.GateIdeal.Own

open Cert.GateIdeal Cert.GateIdeal.Gen Cert.Own
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- What one grid step leaves in its block. -/
theorem point (c : Dev nD) (t : Fin cfg0.N) (y : S2048x256.Idx) :
    outsAt0 (F := Ideal) m c t y = oval (iblk m c 0 t) (iblk m c 1 t) (fun z => wval (iblk m c 2 t) (iblk m c 3 t) (iblk m c 4 t) (z 0) (z 1)) (y 0) (y 1) := by
  unfold outsAt0
  frame_out
  generalize hW : View.readCov (Val := Elt Ideal) _ _ _ = W
  have hw : W = fun z => wval (iblk m c 2 t) (iblk m c 3 t) (iblk m c 4 t) (z 0) (z 1) := by
    funext z
    rw [← hW]
    refine (congrArg _ (eq_ix2 z)).trans (scratch_eq _ (iblk m c 2 t) (iblk m c 3 t) (iblk m c 4 t) _ ?_ _ (z 0) (z 1))
    sl_kernel_rfl
  subst hw
  clear hW
  refine tiles_canon (iblk m c 0 t) (iblk m c 1 t) _ _ ?_ y
  sl_kernel_rfl

/-- Where each window's block sits at each grid step. -/
theorem idx : ∀ t : Fin cfg0.N, win0_0.index t = ![0, 0] ∧ win0_1.index t = ![0, 0] ∧ win0_2.index t = ![0, t.val] ∧ win0_3.index t = ![0, t.val]
    ∧ win0_4.index t = ![0, t.val + 32] ∧ win0_5.index t = ![0, t.val] :=
  (by decide +kernel : ∀ t : Fin grid0.N, _)

/-- The row steps as the host lays them out for the kernel: repeated along the lanes. -/
theorem V_rows (c : Dev nD) (i : Fin 2048) (l : Fin 128) : V m c main_v1 (ix2 i l) = m ((c : Thread nD τ).loc main_arg1) (ix1 i) := by
  have e : V m c main_v1 = broadcastInDim S2048x128 ![0, 1] bcast_S2048x1_S2048x128_0_1 (broadcastInDim S2048x1 ![0] bcast_S2048_S2048x1_0 (m ((c : Thread nD τ).loc main_arg1))) := by
    dsimp only [V, hostOps0]
    after_results_simp <;> rfl
  rw [e]
  pointwise []

/-- The staged block of the activations is the part of the argument array it names. -/
theorem blk0 (c : Dev nD) (t : Fin cfg0.N) (i : Fin 2048) (k : Fin 3072) :
    iblk m c 0 t (ix2 i k : S2048x3072.Idx) = m ((c : Thread nD τ).loc main_arg0) (ix2 i k : S2048x3072.Idx) := by
  blk_ext [iblk, V, idx t]

/-- The staged block of the codes is the part of the argument array it names. -/
theorem blk2 (c : Dev nD) (t : Fin cfg0.N) (k : Fin 3072) (l : Fin 256) :
    iblk m c 2 t (ix2 k l : S3072x256.Idx) = m ((c : Thread nD τ).loc main_arg2) (ix2 k ⟨t.val * 256 + l.val, by have := t.isLt; have : cfg0.N = 32 := rfl; omega⟩ : S3072x8192.Idx) := by
  blk_ext [iblk, V, idx t]

/-- The staged block of the gate scales is the part of the argument array it names. -/
theorem blk3 (c : Dev nD) (t : Fin cfg0.N) (k : Fin 96) (l : Fin 256) :
    iblk m c 3 t (ix2 k l : S96x256.Idx) = m ((c : Thread nD τ).loc main_arg3) (ix2 k ⟨t.val * 256 + l.val, by have := t.isLt; have : cfg0.N = 32 := rfl; omega⟩ : S96x16384.Idx) := by
  blk_ext [iblk, V, idx t]

/-- The staged block of the up scales is the part of the argument array it names. -/
theorem blk4 (c : Dev nD) (t : Fin cfg0.N) (k : Fin 96) (l : Fin 256) :
    iblk m c 4 t (ix2 k l : S96x256.Idx) = m ((c : Thread nD τ).loc main_arg3) (ix2 k ⟨8192 + (t.val * 256 + l.val), by have := t.isLt; have : cfg0.N = 32 := rfl; omega⟩ : S96x16384.Idx) := by
  blk_ext [iblk, V, idx t]

/-- The staged block of the row steps is the part of the argument array it names. -/
theorem blk1 (c : Dev nD) (t : Fin cfg0.N) (i : Fin 2048) (l : Fin 128) :
    iblk m c 1 t (ix2 i l : S2048x128.Idx) = V m c main_v1 (ix2 i l : S2048x128.Idx) := by
  blk_ext [iblk, idx t]

/-- The array the kernel leaves is the reference's. -/
theorem final (c : Dev nD) : (dats m 0 c).arrAt 5 cfg0.N
    = Cert.GateRefIdeal.Read.val_main_v44 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5, point]
  obtain ⟨i, l, rfl⟩ : ∃ (i : Fin 2048) (l : Fin 256), y = ix2 i l := ⟨y 0, y 1, eq_ix2 y⟩
  have ht : t.val < 32 := t.isLt
  have he : (win0_5.blk t).view.emb (ix2 i l) = (ix2 i ⟨t.val * 256 + l.val, by omega⟩ : S2048x8192.Idx) := by
    blk_ext [idx t]
  rw [he]
  refine Eq.trans ?_ (Cert.GateRefIdeal.Own.ref_apply _ _ _ _ i _).symm
  show glu _ _ _ = glu _ _ _
  have hlow : ∀ k : Fin 3072, wval (iblk m c 2 t) (iblk m c 3 t) (iblk m c 4 t) k ⟨l.val, by omega⟩
      = (((lowNibble (m ((c : Thread nD τ).loc main_arg2) (ix2 k ⟨t.val * 256 + l.val, by omega⟩ : S3072x8192.Idx))).toInt : ℝ) : EReal)
        * m ((c : Thread nD τ).loc main_arg3) (ix2 ⟨k.val / 32, by omega⟩ ⟨t.val * 256 + l.val, by omega⟩ : S96x16384.Idx) := by
    intro k
    unfold wval
    rw [dif_pos (show l.val < 256 from l.isLt)]
    refine congrArg₂ (fun (b : BitVec 8) (s : EReal) => (((lowNibble b).toInt : ℝ) : EReal) * s) (blk2 m c t k l) (blk3 m c t _ l)
  have hhigh : ∀ k : Fin 3072, wval (iblk m c 2 t) (iblk m c 3 t) (iblk m c 4 t) k ⟨256 + l.val, by omega⟩
      = (((highNibble (m ((c : Thread nD τ).loc main_arg2) (ix2 k ⟨t.val * 256 + l.val, by omega⟩ : S3072x8192.Idx))).toInt : ℝ) : EReal)
        * m ((c : Thread nD τ).loc main_arg3) (ix2 ⟨k.val / 32, by omega⟩ ⟨8192 + (t.val * 256 + l.val), by omega⟩ : S96x16384.Idx) := by
    intro k
    unfold wval
    rw [dif_neg (show ¬ 256 + l.val < 256 by omega)]
    have el : (⟨256 + l.val - 256, by omega⟩ : Fin 256) = l := Fin.ext (by show 256 + l.val - 256 = l.val; omega)
    refine congrArg₂ (fun (b : BitVec 8) (s : EReal) => (((highNibble b).toInt : ℝ) : EReal) * s) ?_ ?_
    · exact (congrArg (fun z : Fin 256 => iblk m c 2 t (ix2 k z : S3072x256.Idx)) el).trans (blk2 m c t k l)
    · exact (congrArg (fun z : Fin 256 => iblk m c 4 t (ix2 ⟨k.val / 32, by omega⟩ z : S96x256.Idx)) el).trans (blk4 m c t _ l)
  refine congr (congrArg₂ glu (Finset.sum_congr rfl fun k _ => congrArg₂ (fun a b : EReal => a * b) (blk0 m c t i k) (hlow k))
    (Finset.sum_congr rfl fun k _ => congrArg₂ (fun a b : EReal => a * b) (blk0 m c t i k) (hhigh k))) ?_
  exact (blk1 m c t i _).trans (V_rows m c i _)

end Cert.GateIdeal.Own

end
-- ==== Proof.DownBits.lean ====
/- The down call as a whole run at any float values: it ends, with its arguments unchanged. -/
module

public import proofs.«01_k».proof.Proof.Gen.Down.Frame
public import proofs.«01_k».proof.Proof.Gen.Down.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Down.Own

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the points before point 4 — decided over the grid. -/
theorem hcond0_0 : ∀ t : Fin cfg0.N, cond0_0 (grid0.coords t) ↔ t.val < 4 :=
  (by decide +kernel : ∀ t : Fin grid0.N, cond0_0 (grid0.coords t) ↔ t.val < 4)

/-- The condition of the body's `scf.if` 1 (`k0_h2`), from the grid coordinates (the skeleton's scalar
    chain substituted). -/
abbrev cond0_1 (i : grid0.Coords) : Prop := k0_cond2 i = 1#1
/-- It holds at the points whose coordinates have i1 + 1 ≤ 4·i0 — decided over the grid. -/
theorem hcond0_1 : ∀ t : Fin cfg0.N, cond0_1 (grid0.coords t) ↔ t.val % 12 + 1 ≤ 4 * (t.val / 12 % 2) :=
  (by decide +kernel : ∀ t : Fin grid0.N, cond0_1 (grid0.coords t) ↔ t.val % 12 + 1 ≤ 4 * (t.val / 12 % 2))

/-- The condition of the body's `scf.if` 2 (`k0_h3`), from the grid coordinates (the skeleton's scalar
    chain substituted). -/
abbrev cond0_2 (i : grid0.Coords) : Prop := k0_cond3 i = 1#1
/-- It holds at the points whose coordinates have 4 ≤ i1 — decided over the grid. -/
theorem hcond0_2 : ∀ t : Fin cfg0.N, cond0_2 (grid0.coords t) ↔ 4 ≤ t.val % 12 :=
  (by decide +kernel : ∀ t : Fin grid0.N, cond0_2 (grid0.coords t) ↔ 4 ≤ t.val % 12)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl

/-- Each window's current staging memref at point `t`, spelled as the pipeline passes it (`bodyAt0`), and its wholeness. -/
abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1536 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8192 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .i32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8192x1536 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 2136000 in
/-- The body's triple IN CASE A (`scf.if` 0 taken, `scf.if` 1 not taken, `scf.if` 2 not taken: points 0, 1, 2, 3): on whole staging memrefs — the inputs' at their contents,
    the FORGOTTEN outputs' (6, 7, 8, 9) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_A (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : cond0_0 i) (hc1 : ¬cond0_1 i) (hc2 : ¬cond0_2 i)
    (x0 : Vec F S256x8192 .f32) (x1 : Vec F S256x128 .f32) (x2 : Vec F S256x128 .f32) (x3 : Vec F S256x1536 .f32) (x4 : Vec F S2048x1536 .i8) (x5 : Vec F S64x1536 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12) K := by
    intro E K
    simp only [cc0_down_eq_skeleton]; unfold cc0_down_skel
    simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

set_option maxHeartbeats 1000000 in
/-- The body's triple IN CASE B (`scf.if` 0 not taken, `scf.if` 1 not taken, `scf.if` 2 taken: points 4, 5, … 23: 16 of 24): on whole staging memrefs — the inputs' at their contents,
    the FORGOTTEN outputs' (6, 7, 8, 9) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_B (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : ¬cond0_1 i) (hc2 : cond0_2 i)
    (x0 : Vec F S256x8192 .f32) (x1 : Vec F S256x128 .f32) (x2 : Vec F S256x128 .f32) (x3 : Vec F S256x1536 .f32) (x4 : Vec F S2048x1536 .i8) (x5 : Vec F S64x1536 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12) K := by
    intro E K
    simp only [cc0_down_eq_skeleton]; unfold cc0_down_skel
    simp only [k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

set_option maxHeartbeats 2116000 in
/-- The body's triple IN CASE C (`scf.if` 0 not taken, `scf.if` 1 taken, `scf.if` 2 not taken: points 12, 13, 14, 15): on whole staging memrefs — the inputs' at their contents,
    the FORGOTTEN outputs' (6, 7, 8, 9) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_C (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : cond0_1 i) (hc2 : ¬cond0_2 i)
    (x0 : Vec F S256x8192 .f32) (x1 : Vec F S256x128 .f32) (x2 : Vec F S256x128 .f32) (x3 : Vec F S256x1536 .f32) (x4 : Vec F S2048x1536 .i8) (x5 : Vec F S64x1536 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12) K := by
    intro E K
    simp only [cc0_down_eq_skeleton]; unfold cc0_down_skel
    simp only [k0_part59_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

/-- The output windows this certificate FORGETS (6, 7, 8, 9): nothing reads what the kernel leaves in them, so nothing
    of it is named. -/
def forgets0 : Fin 10 → Bool := fun w => w.val == 6 || w.val == 7 || w.val == 8 || w.val == 9

/-- The proof data of the one pipeline on core `c`: the arrays as the region finds them (`V`); after the body at
    point `t` each input's buffer at its block and the outputs, FORGOTTEN, at `Dat.unnamed`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 24 := lt_of_lt_of_eq t.isLt (show cfg0.N = 24 from N_0)
  by_cases h0 : t.val < 4
  · by_cases h1 : t.val % 12 + 1 ≤ 4 * (t.val / 12 % 2)
    · exfalso; omega
    · by_cases h2 : 4 ≤ t.val % 12
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [HS0]; · iexact HS0
        iintro ⟨H0, H1, H2, H3, H4, H5, H6, H7, H8, H9, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
  · by_cases h1 : t.val % 12 + 1 ≤ 4 * (t.val / 12 % 2)
    · by_cases h2 : 4 ≤ t.val % 12
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [HS0]; · iexact HS0
        iintro ⟨H0, H1, H2, H3, H4, H5, H6, H7, H8, H9, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
    · by_cases h2 : 4 ≤ t.val % 12
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [HS0]; · iexact HS0
        iintro ⟨H0, H1, H2, H3, H4, H5, H6, H7, H8, H9, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The run with the arguments as launched. -/
theorem unchanged : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r (h : Pipeline.RDat.FramePost (cfgs 0) (fun c => (dats m 0 c).toRForget forgets0) (V m) r) c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c))⟩)
    (run_main m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Down.Own

end
-- ==== Proof.DownRun.lean ====
/- The down projection's body run once in each of its three cases: what it writes is named. -/
module

public import proofs.«01_k».proof.Proof.Gen.DownIdeal.Frame
public import proofs.«01_k».proof.Proof.Gen.DownIdeal.Skeleton

@[expose] public section

set_option maxRecDepth 16384

noncomputable section

namespace Cert.DownIdeal.Own

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the points before point 4 — decided over the grid. -/
theorem hcond0_0 : ∀ t : Fin cfg0.N, cond0_0 (grid0.coords t) ↔ t.val < 4 :=
  (by decide +kernel : ∀ t : Fin grid0.N, cond0_0 (grid0.coords t) ↔ t.val < 4)

/-- The condition of the body's `scf.if` 1 (`k0_h2`), from the grid coordinates (the skeleton's scalar
    chain substituted). -/
abbrev cond0_1 (i : grid0.Coords) : Prop := k0_cond2 i = 1#1
/-- It holds at the points whose coordinates have i1 + 1 ≤ 4·i0 — decided over the grid. -/
theorem hcond0_1 : ∀ t : Fin cfg0.N, cond0_1 (grid0.coords t) ↔ t.val % 12 + 1 ≤ 4 * (t.val / 12 % 2) :=
  (by decide +kernel : ∀ t : Fin grid0.N, cond0_1 (grid0.coords t) ↔ t.val % 12 + 1 ≤ 4 * (t.val / 12 % 2))

/-- The condition of the body's `scf.if` 2 (`k0_h3`), from the grid coordinates (the skeleton's scalar
    chain substituted). -/
abbrev cond0_2 (i : grid0.Coords) : Prop := k0_cond3 i = 1#1
/-- It holds at the points whose coordinates have 4 ≤ i1 — decided over the grid. -/
theorem hcond0_2 : ∀ t : Fin cfg0.N, cond0_2 (grid0.coords t) ↔ 4 ≤ t.val % 12 :=
  (by decide +kernel : ∀ t : Fin grid0.N, cond0_2 (grid0.coords t) ↔ 4 ≤ t.val % 12)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl

/-- Each window's current staging memref at point `t`, spelled as the pipeline passes it (`bodyAt0`), and its wholeness. -/
abbrev ms0_0 (t : Fin cfg0.N) : Memref sig .tc .vmem S256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1536 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x8192 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .i32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8192x1536 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 6000000 in
/-- The body at a step that widens low nibbles, as a run: the pieces it writes into the scratch, whatever the scratch held. -/
noncomputable def kernelRun0_A (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : cond0_0 i) (hc1 : ¬cond0_1 i) (hc2 : ¬cond0_2 i)
    (x0 : Vec F S256x8192 .f32) (x1 : Vec F S256x128 .f32) (x2 : Vec F S256x128 .f32) (x3 : Vec F S256x1536 .f32) (x4 : Vec F S2048x1536 .i8) (x5 : Vec F S64x1536 .f32) :
    { L : List (View.Piece (Elt F) S8192x1536 .bf16) //
      ∀ (w : Vec F S8192x1536 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare w
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ arg12.view.loc (c : Thread nD τ) ↦[arg12.view.set]{fullShare} arg12.view.writes (Elt F) (harg12.unread w) L) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12) K } := by
  refine ⟨?_, fun w E K => ?run⟩
  case run =>
    simp only [cc0_down_eq_skeleton]; unfold cc0_down_skel
    simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexact HS0

set_option maxHeartbeats 6000000 in
/-- The body at a step that multiplies, as a run from a scratch holding `w`: the pieces it leaves in the four results' buffers. -/
noncomputable def kernelRun0_B (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : ¬cond0_1 i) (hc2 : cond0_2 i)
    (x0 : Vec F S256x8192 .f32) (x1 : Vec F S256x128 .f32) (x2 : Vec F S256x128 .f32) (x3 : Vec F S256x1536 .f32) (x4 : Vec F S2048x1536 .i8) (x5 : Vec F S64x1536 .f32) (w : Vec F S8192x1536 .bf16) :
    Σ' (L6 : List (View.Piece (Elt F) S256x1536 .bf16)) (L7 : List (View.Piece (Elt F) S256x8192 .i8)) (L8 : List (View.Piece (Elt F) S1x256 .f32)), { L9 : List (View.Piece (Elt F) S1x256 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare w
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare w) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_down_eq_skeleton]; unfold cc0_down_skel
    simp only [k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; isplitr; · ipureintro; exact harg12.read_unread _
    iexact HS0

set_option maxHeartbeats 6000000 in
/-- The body at a step that widens high nibbles, as a run: the pieces it writes into the scratch, whatever the scratch held. -/
noncomputable def kernelRun0_C (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : cond0_1 i) (hc2 : ¬cond0_2 i)
    (x0 : Vec F S256x8192 .f32) (x1 : Vec F S256x128 .f32) (x2 : Vec F S256x128 .f32) (x3 : Vec F S256x1536 .f32) (x4 : Vec F S2048x1536 .i8) (x5 : Vec F S64x1536 .f32) :
    { L : List (View.Piece (Elt F) S8192x1536 .bf16) //
      ∀ (w : Vec F S8192x1536 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare w
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ arg12.view.loc (c : Thread nD τ) ↦[arg12.view.set]{fullShare} arg12.view.writes (Elt F) (harg12.unread w) L) -∗ K ⟨⟩))
          ⊢ wp frame (wpE (defs₀ (F := F)) Variants.none c none) E (cc0_down i arg2 harg2 arg3 harg3 arg4 harg4 arg5 harg5 arg6 harg6 arg7 harg7 arg8 harg8 arg9 harg9 arg10 harg10 arg11 harg11 arg12 harg12) K } := by
  refine ⟨?_, fun w E K => ?run⟩
  case run =>
    simp only [cc0_down_eq_skeleton]; unfold cc0_down_skel
    simp only [k0_part59_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexact HS0

end Cert.DownIdeal.Own

end
-- ==== Proof.Quant.lean ====
/- The eight-bit quantiser of the activations: its step, its zero point and its codes, and why the integer and the real reading agree. -/
module

public import Idealize.ShloMosaic.Lib.IdealHost
public import Idealize.ShloMosaic.PureOps.Ideal.Laws

@[expose] public section

noncomputable section

namespace Cert.Own

open Idealize.ShloMosaic Idealize.ShloMosaic.ValueIdx

/-- The least of a row of bounds, and at most zero. -/
def qlow {n : ℕ} (g : Fin n → EReal) : EReal := min (Finset.fold min (Ideal.ofBits .f32 2139095040#32) g Finset.univ) 0

/-- The greatest of a row of bounds, and at least zero. -/
def qhigh {n : ℕ} (g : Fin n → EReal) : EReal := max (Finset.fold max (Ideal.ofBits .f32 4286578688#32) g Finset.univ) 0

/-- The quantisation step of a row between its bounds. -/
def qstep {n : ℕ} (lo hi : Fin n → EReal) : EReal :=
  if qhigh hi - qlow lo = 0 then 1 else Ideal.div (qhigh hi - qlow lo) (Ideal.ofBits .f32 1132396544#32)

/-- Clipping to the range of a signed byte. -/
def qclip (x : EReal) : EReal := min (Ideal.ofBits .f32 1123942400#32) (max (Ideal.ofBits .f32 3271557120#32) x)

/-- The zero point of a row. -/
def qzero {n : ℕ} (lo hi : Fin n → EReal) : EReal :=
  qclip (Ideal.ofBits .f32 3271557120#32 - Ideal.liftRound Ideal.roundHalfEven (Ideal.div (qlow lo) (qstep lo hi)))

/-- The code of a value of a row. -/
def qcode {n : ℕ} (lo hi : Fin n → EReal) (v : EReal) : EReal :=
  qclip (Ideal.liftRound Ideal.roundHalfEven (Ideal.div v (qstep lo hi)) + qzero lo hi)

theorem ofBits_127 : Ideal.ofBits .f32 1123942400#32 = ((127 : ℝ) : EReal) := by
  simp [Ideal.ofBits, Ideal.ieee, -EReal.coe_mul]; norm_num

theorem ofBits_neg128 : Ideal.ofBits .f32 3271557120#32 = ((-128 : ℝ) : EReal) := by
  simp [Ideal.ofBits, Ideal.ieee, -EReal.coe_mul]; norm_num

/-- An integer, or an infinity. -/
def Integral (x : EReal) : Prop := x = ⊥ ∨ x = ⊤ ∨ ∃ k : ℤ, x = ((k : ℝ) : EReal)

theorem integral_round (x : EReal) : Integral (Ideal.liftRound Ideal.roundHalfEven x) := by
  induction x with
  | bot => exact Or.inl rfl
  | top => exact Or.inr (Or.inl rfl)
  | coe r => exact Or.inr (Or.inr ⟨_, rfl⟩)

/-- What is an integer or an infinity clips to a signed byte. -/
theorem qclip_int (x : EReal) (h : Integral x) : ∃ k : ℤ, -128 ≤ k ∧ k ≤ 127 ∧ qclip x = ((k : ℝ) : EReal) := by
  unfold qclip
  rw [ofBits_127, ofBits_neg128]
  rcases h with rfl | rfl | ⟨k, rfl⟩
  · refine ⟨-128, by norm_num, by norm_num, ?_⟩
    rw [max_eq_left bot_le, min_eq_right (EReal.coe_le_coe_iff.mpr (by norm_num))]
    norm_num
  · refine ⟨127, by norm_num, by norm_num, ?_⟩
    rw [max_eq_right le_top, min_eq_left le_top]
    norm_num
  · refine ⟨min 127 (max (-128) k), by omega, by omega, ?_⟩
    rw [← EReal.coe_strictMono.monotone.map_max, ← EReal.coe_strictMono.monotone.map_min]
    push_cast
    rfl

theorem qzero_int {n : ℕ} (lo hi : Fin n → EReal) : ∃ k : ℤ, -128 ≤ k ∧ k ≤ 127 ∧ qzero lo hi = ((k : ℝ) : EReal) := by
  refine qclip_int _ ?_
  rw [ofBits_neg128]
  rcases integral_round (Ideal.div (qlow lo) (qstep lo hi)) with h | h | ⟨k, h⟩ <;> rw [h]
  · exact Or.inr (Or.inl (by simp))
  · exact Or.inl (by simp)
  · exact Or.inr (Or.inr ⟨-128 - k, by rw [← EReal.coe_sub]; push_cast; rfl⟩)

theorem qcode_int {n : ℕ} (lo hi : Fin n → EReal) (v : EReal) : ∃ k : ℤ, -128 ≤ k ∧ k ≤ 127 ∧ qcode lo hi v = ((k : ℝ) : EReal) := by
  refine qclip_int _ ?_
  obtain ⟨z, -, -, hz⟩ := qzero_int lo hi
  rw [hz]
  rcases integral_round (Ideal.div v (qstep lo hi)) with h | h | ⟨k, h⟩ <;> rw [h]
  · exact Or.inl (by simp)
  · exact Or.inr (Or.inl (by simp))
  · exact Or.inr (Or.inr ⟨k + z, by rw [← EReal.coe_add]; push_cast; rfl⟩)

theorem clamped_int (lo hi k : ℤ) (h : lo ≤ k) (h' : k ≤ hi) : Ideal.toIntClamped lo hi ((k : ℝ) : EReal) = k := by
  rw [Ideal.toIntClamped_coe, Int.floor_intCast, Int.ceil_intCast, ite_self]
  omega

theorem fptosi8_int (k : ℤ) (h : -128 ≤ k) (h' : k ≤ 127) : FloatOps.fptosi (F := Ideal) (φ := .f32) 8 ((k : ℝ) : EReal) = BitVec.ofInt 8 k := by
  show BitVec.ofInt 8 (Ideal.toIntClamped _ _ _) = _
  rw [clamped_int _ _ k (by norm_num; omega) (by norm_num; omega)]

theorem fptosi32_int (k : ℤ) (h : -128 ≤ k) (h' : k ≤ 127) : FloatOps.fptosi (F := Ideal) (φ := .f32) 32 ((k : ℝ) : EReal) = BitVec.ofInt 32 k := by
  show BitVec.ofInt 32 (Ideal.toIntClamped _ _ _) = _
  rw [clamped_int _ _ k (by norm_num; omega) (by norm_num; omega)]

theorem setWidth_ofInt (k : ℤ) (h : -128 ≤ k) (h' : k ≤ 127) : BitVec.setWidth 8 (BitVec.ofInt 32 k) = BitVec.ofInt 8 k := by
  interval_cases k <;> rfl

theorem signExtend_ofInt (k : ℤ) (h : -128 ≤ k) (h' : k ≤ 127) : BitVec.signExtend 32 (BitVec.ofInt 8 k) = BitVec.ofInt 32 k := by
  interval_cases k <;> rfl

/-- The byte of a code is the same taken at once or through a 32-bit number. -/
theorem qcode_byte {n : ℕ} (lo hi : Fin n → EReal) (v : EReal) :
    BitVec.setWidth 8 (FloatOps.fptosi (F := Ideal) (φ := .f32) 32 (qcode lo hi v)) = FloatOps.fptosi (F := Ideal) (φ := .f32) 8 (qcode lo hi v) := by
  obtain ⟨k, h, h', e⟩ := qcode_int lo hi v
  rw [e, fptosi8_int k h h', fptosi32_int k h h', setWidth_ofInt k h h']

/-- The difference of a code and the zero point is the same taken among integers or among reals. -/
theorem qcode_centred {n : ℕ} (lo hi : Fin n → EReal) (v : EReal) :
    FloatOps.sitofp (F := Ideal) .f32 (IntOp.subi (BitVec.signExtend 32 (BitVec.setWidth 8 (FloatOps.fptosi (F := Ideal) (φ := .f32) 32 (qcode lo hi v))))
      (FloatOps.fptosi (F := Ideal) (φ := .f32) 32 (qzero lo hi))) = qcode lo hi v - qzero lo hi := by
  obtain ⟨k, h, h', e⟩ := qcode_int lo hi v
  obtain ⟨z, g, g', f⟩ := qzero_int lo hi
  rw [e, f, fptosi32_int k h h', fptosi32_int z g g', setWidth_ofInt k h h', signExtend_ofInt k h h']
  show (((BitVec.ofInt 32 k - BitVec.ofInt 32 z).toInt : ℝ) : EReal) = _
  have : (BitVec.ofInt 32 k - BitVec.ofInt 32 z).toInt = k - z := by
    rw [BitVec.toInt_sub, BitVec.toInt_ofInt, BitVec.toInt_ofInt, Int.bmod_eq_of_le (n := k) (by norm_num; omega) (by norm_num; omega),
      Int.bmod_eq_of_le (n := z) (by norm_num; omega) (by norm_num; omega)]
    exact Int.bmod_eq_of_le (by norm_num; omega) (by norm_num; omega)
  rw [this, ← EReal.coe_sub]
  push_cast
  rfl

end Cert.Own

end
-- ==== Proof.DownPieces.lean ====
/- The down projection: what its stores hold, element by element. -/
module

public import proofs.«01_k».proof.Proof.Gen.DownIdeal.Skeleton
public import proofs.«01_k».proof.Proof.Nibble
public import proofs.«01_k».proof.Proof.Quant
public import Idealize.ShloMosaic.Lib.Pipeline.ValueKit
public import Idealize.ShloMosaic.Lib.IdealHost
public import Idealize.ShloMosaic.Lib.Pointwise

@[expose] public section

set_option maxRecDepth 16384

noncomputable section

namespace Cert.DownIdeal.Own

open Cert.DownIdeal Cert.DownIdeal.Gen Cert.Own
open Idealize.ShloMosaic Idealize.ShloMosaic.TcCoe Idealize.ShloMosaic.Tactic
open Idealize.SL.Sem

/-- One stored group of 32 rows of low nibbles, at an element. -/
theorem low_apply (p : Vec Ideal S32x1536 .i8) (s : Vec Ideal S1x1536 .f32) (a : Fin 32) (l : Fin 1536) :
    k0_pay7 (F := Ideal) p s (ix2 a l) = (((lowNibble (p (ix2 a l))).toInt : ℝ) : EReal) * s (ix2 0 l) := by
  pointwise [k0_pay7]
  rw [Ideal.ofBits_sixteenth_bf16, show bitcast S32x1536 8 (andi (shli (bitcast S8x1536 32 p bitcasts_S32x1536_w8_S8x1536_w32) (broadcast S8x1536 4#32))
    (broadcast S8x1536 4042322160#32)) bitcasts_S8x1536_w32_S32x1536_w8 (ix2 a l) = (p (ix2 a l) <<< 4) &&& 240#8 from
      bytes_apply p (fun w => (w <<< 4) &&& 4042322160#32) (fun b => (b <<< 4) &&& 240#8) rfl low_bits _ _ a l]
  refine (congrArg (· * _) ?_).trans (sixteenth (lowNibble (p (ix2 a l))).toInt (s (ix2 0 l)))
  exact congrArg (fun z : ℤ => ((z : ℝ) : EReal)) (low_int (p (ix2 a l)))

/-- One stored group of 32 rows of high nibbles, at an element. -/
theorem high_apply (p : Vec Ideal S32x1536 .i8) (s : Vec Ideal S1x1536 .f32) (a : Fin 32) (l : Fin 1536) :
    k0_pay104 (F := Ideal) p s (ix2 a l) = (((highNibble (p (ix2 a l))).toInt : ℝ) : EReal) * s (ix2 0 l) := by
  pointwise [k0_pay104]
  rw [Ideal.ofBits_sixteenth_bf16, show bitcast S32x1536 8 (andi (bitcast S8x1536 32 p bitcasts_S32x1536_w8_S8x1536_w32)
    (broadcast S8x1536 4042322160#32)) bitcasts_S8x1536_w32_S32x1536_w8 (ix2 a l) = p (ix2 a l) &&& 240#8 from
      bytes_apply p (fun w => w &&& 4042322160#32) (fun b => b &&& 240#8) rfl high_bits _ _ a l]
  refine (congrArg (· * _) ?_).trans (sixteenth (highNibble (p (ix2 a l))).toInt (s (ix2 0 l)))
  exact congrArg (fun z : ℤ => ((z : ℝ) : EReal)) (high_int (p (ix2 a l)))

/-- The row's step, as the kernel computes it. -/
theorem step_apply (lo hi : Vec Ideal S256x128 .f32) (a : Fin 256) :
    k0_pay203 (F := Ideal) lo hi (ix2 a 0) = qstep (fun x => lo (ix2 a x)) (fun x => hi (ix2 a x)) := by
  pointwise [k0_pay203, k0_pay202]
  rfl

/-- The row's lower end, as the kernel computes it. -/
theorem low_end_apply (lo : Vec Ideal S256x128 .f32) (a : Fin 256) : k0_pay202 (F := Ideal) lo (ix2 a 0) = qlow (fun x => lo (ix2 a x)) := by
  pointwise [k0_pay202]
  rfl

/-- The row's zero point, as the kernel computes it. -/
theorem zero_apply (lo hi : Vec Ideal S256x128 .f32) (a : Fin 256) :
    k0_pay204 (F := Ideal) lo hi (ix2 a 0) = qzero (fun x => lo (ix2 a x)) (fun x => hi (ix2 a x)) := by
  pointwise [k0_pay204]
  rw [step_apply, low_end_apply]
  rfl

/-- The code of an activation, as the kernel computes it. -/
theorem code_apply (lo hi : Vec Ideal S256x128 .f32) (v : Vec Ideal S256x8192 .f32) (a : Fin 256) (k : Fin 8192) :
    k0_pay205 (F := Ideal) lo hi v (ix2 a k) = qcode (fun x => lo (ix2 a x)) (fun x => hi (ix2 a x)) (v (ix2 a k)) := by
  pointwise [k0_pay205]
  rw [step_apply, zero_apply]
  rfl

/-- The code's byte, as the kernel stores it. -/
theorem byte_apply (lo hi : Vec Ideal S256x128 .f32) (v : Vec Ideal S256x8192 .f32) (a : Fin 256) (k : Fin 8192) :
    k0_pay206 (F := Ideal) lo hi v (ix2 a k)
      = FloatOps.fptosi (F := Ideal) (φ := .f32) 8 (qcode (fun x => lo (ix2 a x)) (fun x => hi (ix2 a x)) (v (ix2 a k))) := by
  pointwise [k0_pay206]
  rw [code_apply]

/-- The stored row of steps. -/
theorem step_row_apply (lo hi : Vec Ideal S256x128 .f32) (z : Vec Ideal S256x1 .f32) (a : Fin 256) :
    k0_pay4 (F := Ideal) (k0_pay203 lo hi) z (iota .tc S256x128 32 [1] iota_S256x128_d1_w32) (Scalar.ofBits .f32 0x00000000#32) (ix2 0 a)
      = qstep (fun x => lo (ix2 a x)) (fun x => hi (ix2 a x)) := by
  refine Eq.trans ?_ (step_apply lo hi a)
  generalize k0_pay203 (F := Ideal) lo hi = u
  pointwise [k0_pay4, k0_pay3]
  rfl

/-- The stored row of zero points. -/
theorem zero_row_apply (lo hi : Vec Ideal S256x128 .f32) (u : Vec Ideal S256x1 .f32) (a : Fin 256) :
    k0_pay5 (F := Ideal) u (k0_pay204 lo hi) (iota .tc S256x128 32 [1] iota_S256x128_d1_w32) (Scalar.ofBits .f32 0x00000000#32) (ix2 0 a)
      = FloatOps.fptosi (F := Ideal) (φ := .f32) 32 (qzero (fun x => lo (ix2 a x)) (fun x => hi (ix2 a x))) := by
  pointwise [k0_pay5, k0_pay3]
  rw [zero_apply]

/-- One tile of 256 rows of the result, at an element. -/
theorem tile_apply (lo hi : Vec Ideal S256x128 .f32) (v : Vec Ideal S256x8192 .f32) (w : Vec Ideal S8192x1536 .bf16) (x : Vec Ideal S256x1536 .f32)
    (a : Fin 256) (l : Fin 1536) :
    k0_pay6 (F := Ideal) (k0_pay203 lo hi) (k0_pay204 lo hi) (k0_pay205 lo hi v) w x (ix2 a l)
      = x (ix2 a l) + (∑ k : Fin 8192, (qcode (fun x => lo (ix2 a x)) (fun x => hi (ix2 a x)) (v (ix2 a k))
          - qzero (fun x => lo (ix2 a x)) (fun x => hi (ix2 a x))) * w (ix2 k l)) * qstep (fun x => lo (ix2 a x)) (fun x => hi (ix2 a x)) := by
  pointwise [k0_pay6]
  simp only [step_apply, zero_apply, code_apply]

/-- A quarter of the widened weight: the nibbles of the codes with their scales. -/
def wval (nib : BitVec 8 → BitVec 32) (X4 : Vec Ideal S2048x1536 .i8) (X5 : Vec Ideal S64x1536 .f32) (k : Fin 2048) (l : Fin 1536) : EReal :=
  (((nib (X4 (ix2 k l))).toInt : ℝ) : EReal) * X5 (ix2 ⟨k.val / 32, by omega⟩ l)

/-- A group of 32 rows of the weight, as the kernel stores it. -/
def group (pay : Vec Ideal S32x1536 .i8 → Vec Ideal S1x1536 .f32 → Vec Ideal S32x1536 .bf16) (off : Fin 64 → Fin 2 → ℕ)
    (inb : ∀ r a, off r a + S32x1536.size a ≤ S8192x1536.size a) (X4 : Vec Ideal S2048x1536 .i8) (X5 : Vec Ideal S64x1536 .f32) (g : Fin 64) :
    View.Piece (Elt Ideal) S8192x1536 .bf16 :=
  ⟨Rect.unit (off ⟨63 - g.val, by omega⟩) S32x1536.size (inb ⟨63 - g.val, by omega⟩),
    pay (fun x => X4 ((Rect.unit (s := S2048x1536) ![32 * (63 - g.val), 0] ![32, 1536] (by have := g.isLt; intro a; match a with | ⟨0, _⟩ => show 32 * (63 - g.val) + 32 ≤ 2048; omega | ⟨1, _⟩ => show 0 + 1536 ≤ 1536; omega)).idx x))
      (fun x => X5 ((Rect.unit (s := S64x1536) ![63 - g.val, 0] ![1, 1536] (by have := g.isLt; intro a; match a with | ⟨0, _⟩ => show 63 - g.val + 1 ≤ 64; omega | ⟨1, _⟩ => show 0 + 1536 ≤ 1536; omega)).idx x))⟩

/-- The stores that make a quarter of the widened weight, last first. -/
def groups (pay : Vec Ideal S32x1536 .i8 → Vec Ideal S1x1536 .f32 → Vec Ideal S32x1536 .bf16) (off : Fin 64 → Fin 2 → ℕ)
    (inb : ∀ r a, off r a + S32x1536.size a ≤ S8192x1536.size a) (X4 : Vec Ideal S2048x1536 .i8) (X5 : Vec Ideal S64x1536 .f32) :
    List (View.Piece (Elt Ideal) S8192x1536 .bf16) :=
  (List.finRange 64).map (group pay off inb X4 X5)

section Groups

variable (pay : Vec Ideal S32x1536 .i8 → Vec Ideal S1x1536 .f32 → Vec Ideal S32x1536 .bf16) (off : Fin 64 → Fin 2 → ℕ)
  (inb : ∀ r a, off r a + S32x1536.size a ≤ S8192x1536.size a) (X4 : Vec Ideal S2048x1536 .i8) (X5 : Vec Ideal S64x1536 .f32)
  (nib : BitVec 8 → BitVec 32)
  (hpay : ∀ p s a l, pay p s (ix2 a l) = (((nib (p (ix2 a l))).toInt : ℝ) : EReal) * s (ix2 0 l))
  (b : ℕ) (hoff : ∀ r, off r = ![2048 * b + 32 * r.val, 0])

include hoff in
/-- Where a stored group lies. -/
theorem group_emb (g : Fin 64) (a : Fin 32) (l : Fin 1536) :
    ((group pay off inb X4 X5 g).1.emb (ix2 a l : S32x1536.Idx) 0).val = 2048 * b + 32 * (63 - g.val) + a.val
    ∧ ((group pay off inb X4 X5 g).1.emb (ix2 a l : S32x1536.Idx) 1).val = l.val := by
  have e0 : ((group pay off inb X4 X5 g).1.emb (ix2 a l : S32x1536.Idx) 0).val = off ⟨63 - g.val, by omega⟩ 0 + 1 * a.val := rfl
  have e1 : ((group pay off inb X4 X5 g).1.emb (ix2 a l : S32x1536.Idx) 1).val = off ⟨63 - g.val, by omega⟩ 1 + 1 * l.val := rfl
  rw [hoff] at e0 e1
  have f0 : (![2048 * b + 32 * (63 - g.val), 0] : Fin 2 → ℕ) 0 = 2048 * b + 32 * (63 - g.val) := rfl
  have f1 : (![2048 * b + 32 * (63 - g.val), 0] : Fin 2 → ℕ) 1 = 0 := rfl
  constructor
  · rw [e0]; dsimp only; rw [f0]; omega
  · rw [e1]; dsimp only; rw [f1]; omega

include hpay hoff in
/-- Inside the quarter the scratch holds the widened weight after the stores. -/
theorem groups_in (v : View sig .tc .vmem S8192x1536 .bf16) (f : v.ty.Contents (Elt Ideal)) (y : S8192x1536.Idx)
    (k : Fin 2048) (hk : (y 0).val = 2048 * b + k.val) (l : Fin 1536) (hl : (y 1).val = l.val) :
    v.read (Elt Ideal) (v.writes (Elt Ideal) f (groups pay off inb X4 X5)) y = wval nib X4 X5 k l := by
  have hc : ∃ p ∈ groups pay off inb X4 X5, y ∈ p.1.set := by
    refine ⟨group pay off inb X4 X5 ⟨63 - k.val / 32, by omega⟩, List.mem_map_of_mem (List.mem_finRange _), ?_⟩
    have e : y = (group pay off inb X4 X5 ⟨63 - k.val / 32, by omega⟩).1.idx (ix2 ⟨k.val % 32, by omega⟩ l : S32x1536.Idx) := by
      have h := group_emb pay off inb X4 X5 b hoff ⟨63 - k.val / 32, by omega⟩ ⟨k.val % 32, by omega⟩ l
      funext c
      match c with
      | ⟨0, _⟩ => exact Fin.ext ((hk.trans (show 2048 * b + k.val = 2048 * b + 32 * (63 - (63 - k.val / 32)) + k.val % 32 by omega)).trans h.1.symm)
      | ⟨1, _⟩ => exact Fin.ext (hl.trans h.2.symm)
    exact Eq.mpr (congrArg (· ∈ _) e) (LoadRect.idx_mem _ _)
  rw [View.read_writes_apply_eq_canon _ _ _ _ hc]
  refine (View.canon_apply_of_pieces (Val := Elt Ideal) (S := S8192x1536) (e := .bf16)
    (fun z => if h : 2048 * b ≤ (z 0).val ∧ (z 0).val < 2048 * b + 2048 then wval nib X4 X5 ⟨(z 0).val - 2048 * b, by omega⟩ (z 1) else 0) _ ?_ y hc).trans ?_
  · intro p hp x
    obtain ⟨g, -, rfl⟩ := List.mem_map.mp hp
    have hg := g.isLt
    obtain ⟨a, c, rfl⟩ : ∃ (a : Fin 32) (c : Fin 1536), x = ix2 a c := ⟨x 0, x 1, eq_ix2 x⟩
    refine (hpay _ _ a c).trans ?_
    obtain ⟨e0, e1⟩ := group_emb pay off inb X4 X5 b hoff g a c
    dsimp only
    generalize (group pay off inb X4 X5 g).1.emb (ix2 a c : S32x1536.Idx) = z at e0 e1 ⊢
    have ha := a.isLt
    rw [dif_pos (show 2048 * b ≤ (z 0).val ∧ (z 0).val < 2048 * b + 2048 by omega)]
    unfold wval
    refine congrArg₂ (fun (b : BitVec 8) (s : EReal) => (((nib b).toInt : ℝ) : EReal) * s) (congrArg X4 ?_) (congrArg X5 ?_)
    · funext d
      match d with
      | ⟨0, _⟩ => exact Fin.ext (show 32 * (63 - g.val) + 1 * a.val = (z 0).val - 2048 * b by omega)
      | ⟨1, _⟩ => exact Fin.ext (show 0 + 1 * c.val = (z 1).val by omega)
    · funext d
      match d with
      | ⟨0, _⟩ => exact Fin.ext (show 63 - g.val + 1 * 0 = ((z 0).val - 2048 * b) / 32 by omega)
      | ⟨1, _⟩ => exact Fin.ext (show 0 + 1 * c.val = (z 1).val by omega)
  · dsimp only
    have hk' := k.isLt
    rw [dif_pos (show 2048 * b ≤ (y 0).val ∧ (y 0).val < 2048 * b + 2048 by omega)]
    exact congrArg₂ (wval nib X4 X5) (Fin.ext (show (y 0).val - 2048 * b = k.val by omega)) (Fin.ext hl)

include hoff in
/-- Outside the quarter the scratch holds what it held. -/
theorem groups_out (v : View sig .tc .vmem S8192x1536 .bf16) (f : v.ty.Contents (Elt Ideal)) (y : S8192x1536.Idx)
    (h : (y 0).val < 2048 * b) :
    v.read (Elt Ideal) (v.writes (Elt Ideal) f (groups pay off inb X4 X5)) y = v.read (Elt Ideal) f y := by
  refine View.read_writes_apply_of_forall_not_mem _ _ _ _ ?_
  intro p hp hy
  obtain ⟨g, -, rfl⟩ := List.mem_map.mp hp
  obtain ⟨x, e⟩ := LoadRect.exists_idx_of_mem _ hy
  obtain ⟨a, c, rfl⟩ : ∃ (a : Fin 32) (c : Fin 1536), x = ix2 a c := ⟨x 0, x 1, eq_ix2 x⟩
  have := (group_emb pay off inb X4 X5 b hoff g a c).1
  have e' : (group pay off inb X4 X5 g).1.emb (ix2 a c : S32x1536.Idx) = y := e
  rw [e'] at this
  omega

end Groups

end Cert.DownIdeal.Own

end
-- ==== Proof.DownStores.lean ====
/- The down projection: the stores its runs make, in the form the element lemmas take. -/
module

public import proofs.«01_k».proof.Proof.DownRun
public import proofs.«01_k».proof.Proof.DownPieces
public import Idealize.ShloMosaic.Lib.Pipeline.ValueKit
public import Idealize.ShloMosaic.Lib.IdealHost
public import Idealize.ShloMosaic.Lib.Pointwise

@[expose] public section

set_option maxRecDepth 16384

noncomputable section

namespace Cert.DownIdeal.Own

open Cert.DownIdeal Cert.DownIdeal.Gen Cert.Own
open Idealize.ShloMosaic Idealize.ShloMosaic.TcCoe Idealize.ShloMosaic.Tactic
open Idealize.SL.Sem

/-- The stores of the low nibbles' quarter. -/
theorem stores_A  (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : cond0_0 i) (hc1 : ¬cond0_1 i) (hc2 : ¬cond0_2 i)
    (x0 : Vec Ideal S256x8192 .f32) (x1 : Vec Ideal S256x128 .f32) (x2 : Vec Ideal S256x128 .f32) (x3 : Vec Ideal S256x1536 .f32) (x4 : Vec Ideal S2048x1536 .i8) (x5 : Vec Ideal S64x1536 .f32)  :
    (kernelRun0_A (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5).1
      = groups (k0_pay7 (F := Ideal)) (fun r => k0_off1 i (BitVec.ofNat 32 (32 * r.val))) (k0_off1_inb i hc0) x4 x5 := by
  have e : (kernelRun0_A (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5).1
      = groups (k0_pay7 (F := Ideal)) (fun r => k0_off1 i (BitVec.ofNat 32 (32 * r.val))) (k0_off1_inb i hc0)
        (arg6.view.read (Elt Ideal) (harg6.unread x4)) (arg7.view.read (Elt Ideal) (harg7.unread x5)) := by
    sl_kernel_rfl
  rw [e, harg6.read_unread, harg7.read_unread]

/-- The stores of the high nibbles' quarter. -/
theorem stores_C  (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : cond0_1 i) (hc2 : ¬cond0_2 i)
    (x0 : Vec Ideal S256x8192 .f32) (x1 : Vec Ideal S256x128 .f32) (x2 : Vec Ideal S256x128 .f32) (x3 : Vec Ideal S256x1536 .f32) (x4 : Vec Ideal S2048x1536 .i8) (x5 : Vec Ideal S64x1536 .f32)  :
    (kernelRun0_C (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5).1
      = groups (k0_pay104 (F := Ideal)) (fun r => k0_off2 i (BitVec.ofNat 32 (32 * r.val))) (k0_off2_inb i hc1) x4 x5 := by
  have e : (kernelRun0_C (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5).1
      = groups (k0_pay104 (F := Ideal)) (fun r => k0_off2 i (BitVec.ofNat 32 (32 * r.val))) (k0_off2_inb i hc1)
        (arg6.view.read (Elt Ideal) (harg6.unread x4)) (arg7.view.read (Elt Ideal) (harg7.unread x5)) := by
    sl_kernel_rfl
  rw [e, harg6.read_unread, harg7.read_unread]

/-- The store of the result covers its buffer. -/
theorem cover_B_6  (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : ¬cond0_1 i) (hc2 : cond0_2 i)
    (x0 : Vec Ideal S256x8192 .f32) (x1 : Vec Ideal S256x128 .f32) (x2 : Vec Ideal S256x128 .f32) (x3 : Vec Ideal S256x1536 .f32) (x4 : Vec Ideal S2048x1536 .i8) (x5 : Vec Ideal S64x1536 .f32) (w : Vec Ideal S8192x1536 .bf16)  (y : S256x1536.Idx) :
    ∃ p ∈ (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).1, y ∈ p.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).1 S256x1536.size (by sl_kernel_rfl) y

/-- The store of the result. -/
theorem stored_B_6  (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : ¬cond0_1 i) (hc2 : cond0_2 i)
    (x0 : Vec Ideal S256x8192 .f32) (x1 : Vec Ideal S256x128 .f32) (x2 : Vec Ideal S256x128 .f32) (x3 : Vec Ideal S256x1536 .f32) (x4 : Vec Ideal S2048x1536 .i8) (x5 : Vec Ideal S64x1536 .f32) (w : Vec Ideal S8192x1536 .bf16)  :
    View.canon (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).1 = k0_pay6 (F := Ideal) (k0_pay203 x1 x2) (k0_pay204 x1 x2) (k0_pay205 x1 x2 x0) w x3 := by
  frame_out

/-- The store of the codes covers its buffer. -/
theorem cover_B_7  (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : ¬cond0_1 i) (hc2 : cond0_2 i)
    (x0 : Vec Ideal S256x8192 .f32) (x1 : Vec Ideal S256x128 .f32) (x2 : Vec Ideal S256x128 .f32) (x3 : Vec Ideal S256x1536 .f32) (x4 : Vec Ideal S2048x1536 .i8) (x5 : Vec Ideal S64x1536 .f32) (w : Vec Ideal S8192x1536 .bf16)  (y : S256x8192.Idx) :
    ∃ p ∈ (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).2.1, y ∈ p.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).2.1 S256x8192.size (by sl_kernel_rfl) y

/-- The store of the codes. -/
theorem stored_B_7  (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : ¬cond0_1 i) (hc2 : cond0_2 i)
    (x0 : Vec Ideal S256x8192 .f32) (x1 : Vec Ideal S256x128 .f32) (x2 : Vec Ideal S256x128 .f32) (x3 : Vec Ideal S256x1536 .f32) (x4 : Vec Ideal S2048x1536 .i8) (x5 : Vec Ideal S64x1536 .f32) (w : Vec Ideal S8192x1536 .bf16)  :
    View.canon (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).2.1 = k0_pay206 (F := Ideal) x1 x2 x0 := by
  frame_out

/-- The store of the row of steps covers its buffer. -/
theorem cover_B_8  (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : ¬cond0_1 i) (hc2 : cond0_2 i)
    (x0 : Vec Ideal S256x8192 .f32) (x1 : Vec Ideal S256x128 .f32) (x2 : Vec Ideal S256x128 .f32) (x3 : Vec Ideal S256x1536 .f32) (x4 : Vec Ideal S2048x1536 .i8) (x5 : Vec Ideal S64x1536 .f32) (w : Vec Ideal S8192x1536 .bf16)  (y : S1x256.Idx) :
    ∃ p ∈ (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).2.2.1, y ∈ p.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).2.2.1 S1x256.size (by sl_kernel_rfl) y

/-- The store of the row of steps. -/
theorem stored_B_8  (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : ¬cond0_1 i) (hc2 : cond0_2 i)
    (x0 : Vec Ideal S256x8192 .f32) (x1 : Vec Ideal S256x128 .f32) (x2 : Vec Ideal S256x128 .f32) (x3 : Vec Ideal S256x1536 .f32) (x4 : Vec Ideal S2048x1536 .i8) (x5 : Vec Ideal S64x1536 .f32) (w : Vec Ideal S8192x1536 .bf16)  :
    View.canon (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).2.2.1 = k0_pay4 (F := Ideal) (k0_pay203 x1 x2) (k0_pay204 x1 x2) (iota .tc S256x128 32 [1] iota_S256x128_d1_w32) (Scalar.ofBits .f32 0x00000000#32) := by
  frame_out

/-- The store of the row of zero points covers its buffer. -/
theorem cover_B_9  (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : ¬cond0_1 i) (hc2 : cond0_2 i)
    (x0 : Vec Ideal S256x8192 .f32) (x1 : Vec Ideal S256x128 .f32) (x2 : Vec Ideal S256x128 .f32) (x3 : Vec Ideal S256x1536 .f32) (x4 : Vec Ideal S2048x1536 .i8) (x5 : Vec Ideal S64x1536 .f32) (w : Vec Ideal S8192x1536 .bf16)  (y : S1x256.Idx) :
    ∃ p ∈ (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).2.2.2.1, y ∈ p.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).2.2.2.1 S1x256.size (by sl_kernel_rfl) y

/-- The store of the row of zero points. -/
theorem stored_B_9  (c : Dev nD) (i : grid0.Coords) (arg2 : Memref sig .tc .vmem S256x8192 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x1536 .f32) (harg5 : arg5.IsWhole) (arg6 : Memref sig .tc .vmem S2048x1536 .i8) (harg6 : arg6.IsWhole) (arg7 : Memref sig .tc .vmem S64x1536 .f32) (harg7 : arg7.IsWhole) (arg8 : Memref sig .tc .vmem S256x1536 .bf16) (harg8 : arg8.IsWhole) (arg9 : Memref sig .tc .vmem S256x8192 .i8) (harg9 : arg9.IsWhole) (arg10 : Memref sig .tc .vmem S1x256 .f32) (harg10 : arg10.IsWhole) (arg11 : Memref sig .tc .vmem S1x256 .i32) (harg11 : arg11.IsWhole) (arg12 : Memref sig .tc .vmem S8192x1536 .bf16) (harg12 : arg12.IsWhole) (hc0 : ¬cond0_0 i) (hc1 : ¬cond0_1 i) (hc2 : cond0_2 i)
    (x0 : Vec Ideal S256x8192 .f32) (x1 : Vec Ideal S256x128 .f32) (x2 : Vec Ideal S256x128 .f32) (x3 : Vec Ideal S256x1536 .f32) (x4 : Vec Ideal S2048x1536 .i8) (x5 : Vec Ideal S64x1536 .f32) (w : Vec Ideal S8192x1536 .bf16)  :
    View.canon (kernelRun0_B (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 x5 w).2.2.2.1 = k0_pay5 (F := Ideal) (k0_pay203 x1 x2) (k0_pay204 x1 x2) (iota .tc S256x128 32 [1] iota_S256x128_d1_w32) (Scalar.ofBits .f32 0x00000000#32) := by
  frame_out

end Cert.DownIdeal.Own

end
-- ==== Proof.DownRefValue.lean ====
/- The down projection's reference, element by element. -/
module

public import proofs.«01_k».proof.Proof.Gen.DownRefIdeal.Read
public import proofs.«01_k».proof.Proof.Nibble
public import proofs.«01_k».proof.Proof.Quant
public import Idealize.ShloMosaic.Lib.Pointwise

@[expose] public section

set_option maxRecDepth 16384

noncomputable section

namespace Cert.DownRefIdeal.Own

open Cert.DownRefIdeal Cert.DownRefIdeal.Read Cert.Own
open Idealize.ShloMosaic Idealize.ShloMosaic.TcCoe Idealize.ShloMosaic.Tactic
open Idealize.SL.Sem

/-- The low nibble of a code times its scale. -/
theorem low_apply (x4 : Vec Ideal S8192x1536 .i8) (x5 : Vec Ideal S256x3072 .f32) (k : Fin 8192) (n : Fin 1536) :
    val_main_v48 (F := Ideal) x4 x5 (ix2 k n)
      = (((lowNibble (x4 (ix2 k n))).toInt : ℝ) : EReal) * x5 (ix2 ⟨k.val / 32, by omega⟩ ⟨n.val, by omega⟩) := by
  pointwise [val_main_v48, val_main_v47, val_main_v46, val_main_v45, val_main_v44, val_main_v43, val_main_v42, val_main_v41, val_main_v40, val_main_v39, val_main_v38, val_main_v37, val_main_v36, val_main_v35, val_main_v34, val_main_c, val_main_c_11, val_main_c_12]
  rfl

/-- The high nibble of a code times its scale. -/
theorem high_apply (x4 : Vec Ideal S8192x1536 .i8) (x5 : Vec Ideal S256x3072 .f32) (k : Fin 8192) (n : Fin 1536) :
    val_main_v62 (F := Ideal) x4 x5 (ix2 k n)
      = (((highNibble (x4 (ix2 k n))).toInt : ℝ) : EReal) * x5 (ix2 ⟨k.val / 32, by omega⟩ ⟨1536 + n.val, by omega⟩) := by
  pointwise [val_main_v62, val_main_v61, val_main_v60, val_main_v59, val_main_v58, val_main_v57, val_main_v56, val_main_v55, val_main_v54, val_main_v53, val_main_v52, val_main_v51, val_main_v50, val_main_v49, val_main_v34, val_main_c_13, val_main_c_14, val_main_c_15]
  rfl

/-- The reference's step of a row. -/
theorem ref_step (x1 x2 : Vec Ideal S2048x128 .f32) (i : Fin 2048) :
    val_main_v11 (F := Ideal) x1 x2 (ix1 i) = qstep (fun x => x1 (ix2 i x)) (fun x => x2 (ix2 i x)) := by
  pointwise [val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_call0_v0, val_main_call0_v1]
  rw [show id (constant (F := Ideal) S_ .f32 1065353216#32) ix0 = (1 : EReal) from Ideal.ofBits_one_f32]
  rfl

/-- The reference's zero point of a row. -/
theorem ref_zero (x1 x2 : Vec Ideal S2048x128 .f32) (i : Fin 2048) :
    val_main_v16 (F := Ideal) x1 x2 (ix1 i) = qzero (fun x => x1 (ix2 i x)) (fun x => x2 (ix2 i x)) := by
  pointwise [val_main_v16, val_main_v15, val_main_v14, val_main_v13, val_main_v12, val_main_v2, val_main_v1, val_main_v0, val_main_cst, val_main_cst_0, val_main_cst_6, val_main_cst_7, val_main_cst_8, val_main_call2_v0, val_main_call2_v1, val_main_call2_v2, val_main_call2_v3, val_main_call2_v4]
  rw [ref_step]
  rfl

/-- The reference's code of an activation. -/
theorem ref_code (x0 : Vec Ideal S2048x8192 .f32) (x1 x2 : Vec Ideal S2048x128 .f32) (i : Fin 2048) (k : Fin 8192) :
    val_main_v24 (F := Ideal) x0 x1 x2 (ix2 i k) = qcode (fun x => x1 (ix2 i x)) (fun x => x2 (ix2 i x)) (x0 (ix2 i k)) := by
  pointwise [val_main_v24, val_main_v23, val_main_v22, val_main_v21, val_main_v20, val_main_v19, val_main_v18, val_main_v17, val_main_cst_9, val_main_cst_10, val_main_call4_v0, val_main_call4_v1, val_main_call4_v2, val_main_call4_v3, val_main_call4_v4]
  rw [ref_step, ref_zero]
  rfl

/-- The reference's centred code. -/
theorem ref_centred (x0 : Vec Ideal S2048x8192 .f32) (x1 x2 : Vec Ideal S2048x128 .f32) (i : Fin 2048) (k : Fin 8192) :
    val_main_v33 (F := Ideal) x0 x1 x2 (ix2 i k)
      = qcode (fun x => x1 (ix2 i x)) (fun x => x2 (ix2 i x)) (x0 (ix2 i k)) - qzero (fun x => x1 (ix2 i x)) (fun x => x2 (ix2 i x)) := by
  pointwise [val_main_v33, val_main_v32, val_main_v31, val_main_v30, val_main_v29, val_main_v28, val_main_v27, val_main_v26, val_main_v25]
  rw [ref_code, ref_zero]
  exact qcode_centred _ _ _

/-- The reference's byte of a code. -/
theorem ref_byte (x0 : Vec Ideal S2048x8192 .f32) (x1 x2 : Vec Ideal S2048x128 .f32) (i : Fin 2048) (k : Fin 8192) :
    val_main_v26 (F := Ideal) x0 x1 x2 (ix2 i k)
      = FloatOps.fptosi (F := Ideal) (φ := .f32) 8 (qcode (fun x => x1 (ix2 i x)) (fun x => x2 (ix2 i x)) (x0 (ix2 i k))) := by
  pointwise [val_main_v26, val_main_v25]
  rw [ref_code]
  exact qcode_byte _ _ _

/-- The reference's row of steps. -/
theorem ref_step_row (x1 x2 : Vec Ideal S2048x128 .f32) (i : Fin 2048) :
    val_main_v74 (F := Ideal) x1 x2 (ix2 0 i) = qstep (fun x => x1 (ix2 i x)) (fun x => x2 (ix2 i x)) := by
  pointwise [val_main_v74]
  exact ref_step x1 x2 i

/-- The reference's row of zero points. -/
theorem ref_zero_row (x1 x2 : Vec Ideal S2048x128 .f32) (i : Fin 2048) :
    val_main_v75 (F := Ideal) x1 x2 (ix2 0 i) = FloatOps.fptosi (F := Ideal) (φ := .f32) 32 (qzero (fun x => x1 (ix2 i x)) (fun x => x2 (ix2 i x))) := by
  pointwise [val_main_v75, val_main_v27]
  rw [ref_zero]

/-- The widened weight: the low nibbles make the left half of its columns, the high nibbles the right. -/
def wref (x4 : Vec Ideal S8192x1536 .i8) (x5 : Vec Ideal S256x3072 .f32) (j : ℕ) (k : Fin 8192) (l : Fin 1536) : EReal :=
  if j = 0 then (((lowNibble (x4 (ix2 k l))).toInt : ℝ) : EReal) * x5 (ix2 ⟨k.val / 32, by omega⟩ ⟨l.val, by omega⟩)
  else (((highNibble (x4 (ix2 k l))).toInt : ℝ) : EReal) * x5 (ix2 ⟨k.val / 32, by omega⟩ ⟨1536 + l.val, by omega⟩)

/-- The reference's result at an element. -/
theorem ref_apply (x0 : Vec Ideal S2048x8192 .f32) (x1 x2 : Vec Ideal S2048x128 .f32) (x3 : Vec Ideal S2048x3072 .f32)
    (x4 : Vec Ideal S8192x1536 .i8) (x5 : Vec Ideal S256x3072 .f32) (i : Fin 2048) (n : Fin 3072) (j : ℕ) (l : Fin 1536)
    (hj : j < 2) (hn : n.val = 1536 * j + l.val) :
    val_main_v73 (F := Ideal) x0 x1 x2 x3 x4 x5 (ix2 i n)
      = x3 (ix2 i n) + (∑ k : Fin 8192, (qcode (fun x => x1 (ix2 i x)) (fun x => x2 (ix2 i x)) (x0 (ix2 i k))
          - qzero (fun x => x1 (ix2 i x)) (fun x => x2 (ix2 i x))) * wref x4 x5 j k l) * qstep (fun x => x1 (ix2 i x)) (fun x => x2 (ix2 i x)) := by
  pointwise [val_main_v73, val_main_v72, val_main_v71, val_main_v70, val_main_v69, val_main_v68, val_main_v67, val_main_v66, val_main_v65, val_main_v64, val_main_v63]
  have hl := l.isLt
  by_cases h : n.val < 1536
  · have h0 : j = 0 := by omega
    subst h0
    rw [dif_pos h, ref_step]
    have e : (⟨n.val, h⟩ : Fin 1536) = l := Fin.ext (by show n.val = l.val; omega)
    simp only [e, low_apply, ref_centred]
    simp only [wref, if_true]
  · have h1 : j = 1 := by omega
    subst h1
    rw [dif_neg h, ref_step]
    have e : (⟨n.val - 1536, by omega⟩ : Fin 1536) = l := Fin.ext (by show n.val - 1536 = l.val; omega)
    simp only [e, high_apply, ref_centred]
    simp only [wref, if_neg one_ne_zero]

end Cert.DownRefIdeal.Own

end
-- ==== Proof.DownSteps.lean ====
/- The down projection: what each grid step reads of the arrays, what the scratch holds between steps, and what a step leaves. -/
module

public import proofs.«01_k».proof.Proof.DownStores
public import proofs.«01_k».proof.Proof.DownRefValue

@[expose] public section

set_option maxRecDepth 16384

noncomputable section

namespace Cert.DownIdeal.Own

open Cert.DownIdeal Cert.DownIdeal.Gen Cert.Own
open Idealize.ShloMosaic Idealize.ShloMosaic.TcCoe Idealize.ShloMosaic.Tactic
open Idealize.SL.Sem

open Cert.DownRefIdeal.Own (wref ref_apply ref_byte ref_step_row ref_zero_row)

variable (m : (ℓ : Loc nD τ sig) → Buf (Elt Ideal) ℓ)

/-- The bound on the grid's points. -/
theorem point_lt (t : Fin cfg0.N) : t.val < 24 := t.isLt

/-- Where each window's block sits at each grid step. -/
theorem idx : ∀ t : Fin cfg0.N, win0_0.index t = ![t.val % 12 - 4, 0] ∧ win0_1.index t = ![t.val % 12 - 4, 0] ∧ win0_2.index t = ![t.val % 12 - 4, 0]
    ∧ win0_3.index t = ![t.val % 12 - 4, t.val / 12] ∧ win0_4.index t = ![min (t.val % 12) 3, 0] ∧ win0_5.index t = ![min (t.val % 12) 3, t.val / 12]
    ∧ win0_6.index t = ![t.val % 12 - 4, t.val / 12] :=
  (by decide +kernel : ∀ t : Fin grid0.N, _)

/-- Where the blocks of the codes, steps and zero points sit: past the first half of the grid they stay on the last. -/
theorem idx' : ∀ t : Fin cfg0.N, win0_7.index t = ![if t.val < 12 then t.val - 4 else 7, 0]
    ∧ win0_8.index t = ![0, if t.val < 12 then t.val - 4 else 7] ∧ win0_9.index t = ![0, if t.val < 12 then t.val - 4 else 7] :=
  (by decide +kernel : ∀ t : Fin grid0.N, _)

/-- The second grid coordinate of a step. -/
theorem coord : ∀ t : Fin cfg0.N, (grid0.coords t 1).val = t.val % 12 :=
  (by decide +kernel : ∀ t : Fin grid0.N, _)

/-- The staged block of the activations is the part of the argument array it names. -/
theorem blk0 (c : Dev nD) (t : Fin cfg0.N) (a : Fin 256) (k : Fin 8192) :
    iblk m c 0 t (ix2 a k : S256x8192.Idx) = m ((c : Thread nD τ).loc main_arg0) (ix2 ⟨(t.val % 12 - 4) * 256 + a.val, by have := point_lt t; omega⟩ k : S2048x8192.Idx) := by
  have ht := point_lt t
  blk_ext [iblk, V, idx t]

/-- The staged block of the lower bounds is the part of the argument array it names. -/
theorem blk1 (c : Dev nD) (t : Fin cfg0.N) (a : Fin 256) (k : Fin 128) :
    iblk m c 1 t (ix2 a k : S256x128.Idx) = m ((c : Thread nD τ).loc main_arg1) (ix2 ⟨(t.val % 12 - 4) * 256 + a.val, by have := point_lt t; omega⟩ k : S2048x128.Idx) := by
  have ht := point_lt t
  blk_ext [iblk, V, idx t]

/-- The staged block of the upper bounds is the part of the argument array it names. -/
theorem blk2 (c : Dev nD) (t : Fin cfg0.N) (a : Fin 256) (k : Fin 128) :
    iblk m c 2 t (ix2 a k : S256x128.Idx) = m ((c : Thread nD τ).loc main_arg2) (ix2 ⟨(t.val % 12 - 4) * 256 + a.val, by have := point_lt t; omega⟩ k : S2048x128.Idx) := by
  have ht := point_lt t
  blk_ext [iblk, V, idx t]

/-- The staged block of the residual is the part of the argument array it names. -/
theorem blk3 (c : Dev nD) (t : Fin cfg0.N) (a : Fin 256) (l : Fin 1536) :
    iblk m c 3 t (ix2 a l : S256x1536.Idx) = m ((c : Thread nD τ).loc main_arg3) (ix2 ⟨(t.val % 12 - 4) * 256 + a.val, by have := point_lt t; omega⟩ ⟨t.val / 12 * 1536 + l.val, by have := point_lt t; omega⟩ : S2048x3072.Idx) := by
  have ht := point_lt t
  blk_ext [iblk, V, idx t]

/-- The staged block of the codes of the weight is the part of the argument array it names. -/
theorem blk4 (c : Dev nD) (t : Fin cfg0.N) (k : Fin 2048) (l : Fin 1536) :
    iblk m c 4 t (ix2 k l : S2048x1536.Idx) = m ((c : Thread nD τ).loc main_arg4) (ix2 ⟨min (t.val % 12) 3 * 2048 + k.val, by omega⟩ l : S8192x1536.Idx) := by
  have ht := point_lt t
  blk_ext [iblk, V, idx t]

/-- The staged block of the scales of the weight is the part of the argument array it names. -/
theorem blk5 (c : Dev nD) (t : Fin cfg0.N) (k : Fin 64) (l : Fin 1536) :
    iblk m c 5 t (ix2 k l : S64x1536.Idx) = m ((c : Thread nD τ).loc main_arg5) (ix2 ⟨min (t.val % 12) 3 * 64 + k.val, by omega⟩ ⟨t.val / 12 * 1536 + l.val, by have := point_lt t; omega⟩ : S256x3072.Idx) := by
  have ht := point_lt t
  blk_ext [iblk, V, idx t]

/-- What the scratch holds before step `n`: the quarters of the widened weight made so far in its half of the grid. -/
def Inv (c : Dev nD) (n : ℕ) (W : Vec Ideal S8192x1536 .bf16) : Prop :=
  ∀ (k : Fin 8192) (l : Fin 1536), k.val < 2048 * min (n % 12) 4 →
    W (ix2 k l) = wref (m ((c : Thread nD τ).loc main_arg4)) (m ((c : Thread nD τ).loc main_arg5)) (n / 12) k l

/-- At the start nothing is asked of the scratch. -/
theorem inv_zero (c : Dev nD) (W : Vec Ideal S8192x1536 .bf16) : Inv m c 0 W := fun k l h => absurd h (by simp)

/-- A step that leaves the scratch alone keeps what is known of it. -/
theorem inv_keep (c : Dev nD) (t : Fin cfg0.N) (h : 4 ≤ t.val % 12) (W : Vec Ideal S8192x1536 .bf16) (hW : Inv m c t.val W) : Inv m c (t.val + 1) W := by
  intro k l hk
  by_cases h11 : t.val % 12 = 11
  · exact absurd hk (by rw [show (t.val + 1) % 12 = 0 by omega]; simp)
  · rw [show (t.val + 1) / 12 = t.val / 12 by omega]
    exact hW k l (by omega)

/-- A step that stores a quarter of the widened weight adds it to what is known. -/
theorem inv_widen (c : Dev nD) (t : Fin cfg0.N) (h : t.val % 12 < 4) (pay : Vec Ideal S32x1536 .i8 → Vec Ideal S1x1536 .f32 → Vec Ideal S32x1536 .bf16)
    (off : Fin 64 → Fin 2 → ℕ) (inb : ∀ r a, off r a + S32x1536.size a ≤ S8192x1536.size a) (nib : BitVec 8 → BitVec 32)
    (hpay : ∀ p s a l, pay p s (ix2 a l) = (((nib (p (ix2 a l))).toInt : ℝ) : EReal) * s (ix2 0 l))
    (hoff : ∀ r, off r = ![2048 * (grid0.coords t 1).val + 32 * r.val, 0])
    (hnib : ∀ (k : Fin 8192) (l : Fin 1536) (n : Fin 3072), n.val = t.val / 12 * 1536 + l.val →
      wref (m ((c : Thread nD τ).loc main_arg4)) (m ((c : Thread nD τ).loc main_arg5)) (t.val / 12) k l
        = (((nib (m ((c : Thread nD τ).loc main_arg4) (ix2 k l : S8192x1536.Idx))).toInt : ℝ) : EReal)
          * m ((c : Thread nD τ).loc main_arg5) (ix2 ⟨k.val / 32, by omega⟩ n : S256x3072.Idx))
    (v : View sig .tc .vmem S8192x1536 .bf16) (f : v.ty.Contents (Elt Ideal)) (hW : Inv m c t.val (v.read (Elt Ideal) f)) :
    Inv m c (t.val + 1) (v.read (Elt Ideal) (v.writes (Elt Ideal) f (groups pay off inb (iblk m c 4 t) (iblk m c 5 t)))) := by
  have ht := point_lt t
  intro k l hk
  rw [show (t.val + 1) / 12 = t.val / 12 by omega]
  have hoff' : ∀ r, off r = ![2048 * (t.val % 12) + 32 * r.val, 0] := fun r => by rw [hoff, coord]
  by_cases hb : k.val < 2048 * (t.val % 12)
  · rw [groups_out pay off inb (iblk m c 4 t) (iblk m c 5 t) (t.val % 12) hoff' v f (ix2 k l) hb]
    exact hW k l (by omega)
  · rw [groups_in pay off inb (iblk m c 4 t) (iblk m c 5 t) nib hpay (t.val % 12) hoff' v f (ix2 k l) ⟨k.val - 2048 * (t.val % 12), by omega⟩
      (show k.val = 2048 * (t.val % 12) + (k.val - 2048 * (t.val % 12)) by omega) l rfl]
    rw [hnib k l ⟨t.val / 12 * 1536 + l.val, by omega⟩ rfl]
    unfold wval
    refine congrArg₂ (fun (b : BitVec 8) (s : EReal) => (((nib b).toInt : ℝ) : EReal) * s) ((blk4 m c t _ l).trans ?_) ((blk5 m c t _ l).trans ?_)
    · refine congrArg (fun z : Fin 8192 => m ((c : Thread nD τ).loc main_arg4) (ix2 z l : S8192x1536.Idx)) (Fin.ext ?_)
      show min (t.val % 12) 3 * 2048 + (k.val - 2048 * (t.val % 12)) = k.val
      omega
    · refine congrArg (fun z : Fin 256 => m ((c : Thread nD τ).loc main_arg5) (ix2 z (⟨t.val / 12 * 1536 + l.val, by omega⟩ : Fin 3072) : S256x3072.Idx)) (Fin.ext ?_)
      show min (t.val % 12) 3 * 64 + (k.val - 2048 * (t.val % 12)) / 32 = k.val / 32
      omega

/-- A step that stores low nibbles. -/
theorem inv_low (c : Dev nD) (t : Fin cfg0.N) (h : t.val < 4) (hc0 : cond0_0 (grid0.coords t))
    (v : View sig .tc .vmem S8192x1536 .bf16) (f : v.ty.Contents (Elt Ideal)) (hW : Inv m c t.val (v.read (Elt Ideal) f)) :
    Inv m c (t.val + 1) (v.read (Elt Ideal) (v.writes (Elt Ideal) f
      (groups (k0_pay7 (F := Ideal)) (fun r => k0_off1 (grid0.coords t) (BitVec.ofNat 32 (32 * r.val))) (k0_off1_inb (grid0.coords t) hc0) (iblk m c 4 t) (iblk m c 5 t)))) := by
  refine inv_widen m c t (by omega) _ _ _ lowNibble low_apply (fun r => k0_off1_eq _ r) ?_ v f hW
  intro k l n hn
  unfold wref
  rw [if_pos (by omega)]
  refine congrArg (fun z : Fin 3072 => _ * m ((c : Thread nD τ).loc main_arg5) (ix2 ⟨k.val / 32, by omega⟩ z : S256x3072.Idx)) (Fin.ext ?_)
  show l.val = n.val
  omega

/-- A step that stores high nibbles. -/
theorem inv_high (c : Dev nD) (t : Fin cfg0.N) (h : 12 ≤ t.val) (h' : t.val % 12 < 4) (hc1 : cond0_1 (grid0.coords t))
    (v : View sig .tc .vmem S8192x1536 .bf16) (f : v.ty.Contents (Elt Ideal)) (hW : Inv m c t.val (v.read (Elt Ideal) f)) :
    Inv m c (t.val + 1) (v.read (Elt Ideal) (v.writes (Elt Ideal) f
      (groups (k0_pay104 (F := Ideal)) (fun r => k0_off2 (grid0.coords t) (BitVec.ofNat 32 (32 * r.val))) (k0_off2_inb (grid0.coords t) hc1) (iblk m c 4 t) (iblk m c 5 t)))) := by
  have ht := point_lt t
  refine inv_widen m c t h' _ _ _ highNibble high_apply (fun r => k0_off2_eq _ r) ?_ v f hW
  intro k l n hn
  unfold wref
  rw [if_neg (by omega)]
  refine congrArg (fun z : Fin 3072 => _ * m ((c : Thread nD τ).loc main_arg5) (ix2 ⟨k.val / 32, by omega⟩ z : S256x3072.Idx)) (Fin.ext ?_)
  show 1536 + l.val = n.val
  omega

/-- The result the reference gives of the launch's arguments. -/
def goal6 (c : Dev nD) : S2048x3072.Idx → EReal :=
  Cert.DownRefIdeal.Read.val_main_v73 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The codes the reference gives. -/
def goal7 (c : Dev nD) : S2048x8192.Idx → BitVec 8 :=
  Cert.DownRefIdeal.Read.val_main_v26 (F := Ideal) (m ((c : Thread nD τ).loc main_arg0)) (m ((c : Thread nD τ).loc main_arg1)) (m ((c : Thread nD τ).loc main_arg2))

/-- The row of steps the reference gives. -/
def goal8 (c : Dev nD) : S1x2048.Idx → EReal :=
  Cert.DownRefIdeal.Read.val_main_v74 (F := Ideal) (m ((c : Thread nD τ).loc main_arg1)) (m ((c : Thread nD τ).loc main_arg2))

/-- The row of zero points the reference gives. -/
def goal9 (c : Dev nD) : S1x2048.Idx → BitVec 32 :=
  Cert.DownRefIdeal.Read.val_main_v75 (F := Ideal) (m ((c : Thread nD τ).loc main_arg1)) (m ((c : Thread nD τ).loc main_arg2))

/-- What a step leaves in its block of the result. -/
theorem left6 (c : Dev nD) (t : Fin cfg0.N) (h : 4 ≤ t.val % 12) (W : Vec Ideal S8192x1536 .bf16) (hW : Inv m c t.val W) (y : S256x1536.Idx) :
    k0_pay6 (F := Ideal) (k0_pay203 (iblk m c 1 t) (iblk m c 2 t)) (k0_pay204 (iblk m c 1 t) (iblk m c 2 t)) (k0_pay205 (iblk m c 1 t) (iblk m c 2 t) (iblk m c 0 t)) W (iblk m c 3 t) y
      = goal6 m c ((win0_6.blk t).view.emb y) := by
  have ht := point_lt t
  obtain ⟨a, l, rfl⟩ : ∃ (a : Fin 256) (l : Fin 1536), y = ix2 a l := ⟨y 0, y 1, eq_ix2 y⟩
  have he : (win0_6.blk t).view.emb (ix2 a l) = (ix2 ⟨(t.val % 12 - 4) * 256 + a.val, by omega⟩ ⟨t.val / 12 * 1536 + l.val, by omega⟩ : S2048x3072.Idx) := by
    blk_ext [idx t]
  rw [he]
  unfold goal6
  refine (tile_apply _ _ _ _ _ a l).trans (Eq.trans ?_ (ref_apply _ _ _ _ _ _ _ _ (t.val / 12) l (by omega) (by dsimp only; omega)).symm)
  have e1 : (fun x => iblk m c 1 t (ix2 a x : S256x128.Idx)) = fun x => m ((c : Thread nD τ).loc main_arg1) (ix2 ⟨(t.val % 12 - 4) * 256 + a.val, by omega⟩ x : S2048x128.Idx) := funext fun x => blk1 m c t a x
  have e2 : (fun x => iblk m c 2 t (ix2 a x : S256x128.Idx)) = fun x => m ((c : Thread nD τ).loc main_arg2) (ix2 ⟨(t.val % 12 - 4) * 256 + a.val, by omega⟩ x : S2048x128.Idx) := funext fun x => blk2 m c t a x
  refine congrArg₂ (fun a b : EReal => a + b) (blk3 m c t a l) (congrArg₂ (fun a b : EReal => a * b) (Finset.sum_congr rfl fun k _ => congrArg₂ (fun a b : EReal => a * b)
    (congrArg₂ (fun a b : EReal => a - b) ?_ ?_) ?_) ?_)
  · exact (congrArg₂ (fun p q => qcode p q _) e1 e2).trans (congrArg (qcode _ _) (blk0 m c t a k))
  · exact congrArg₂ qzero e1 e2
  · exact hW k l (by have := k.isLt; omega)
  · exact congrArg₂ qstep e1 e2

/-- What a step leaves in its block of the codes. -/
theorem left7 (c : Dev nD) (t : Fin cfg0.N) (h : 4 ≤ t.val) (h' : t.val < 12 ∨ t.val = 23) (y : S256x8192.Idx) :
    k0_pay206 (F := Ideal) (iblk m c 1 t) (iblk m c 2 t) (iblk m c 0 t) y = goal7 m c ((win0_7.blk t).view.emb y) := by
  have ht := point_lt t
  obtain ⟨a, k, rfl⟩ : ∃ (a : Fin 256) (k : Fin 8192), y = ix2 a k := ⟨y 0, y 1, eq_ix2 y⟩
  have hi : (if t.val < 12 then t.val - 4 else 7) = t.val % 12 - 4 := by
    split <;> omega
  have he : (win0_7.blk t).view.emb (ix2 a k) = (ix2 ⟨(t.val % 12 - 4) * 256 + a.val, by omega⟩ k : S2048x8192.Idx) := by
    blk_ext [idx' t, hi]
  rw [he]
  unfold goal7
  refine (byte_apply _ _ _ a k).trans (Eq.trans ?_ (ref_byte _ _ _ _ k).symm)
  have e1 : (fun x => iblk m c 1 t (ix2 a x : S256x128.Idx)) = fun x => m ((c : Thread nD τ).loc main_arg1) (ix2 ⟨(t.val % 12 - 4) * 256 + a.val, by omega⟩ x : S2048x128.Idx) := funext fun x => blk1 m c t a x
  have e2 : (fun x => iblk m c 2 t (ix2 a x : S256x128.Idx)) = fun x => m ((c : Thread nD τ).loc main_arg2) (ix2 ⟨(t.val % 12 - 4) * 256 + a.val, by omega⟩ x : S2048x128.Idx) := funext fun x => blk2 m c t a x
  exact congrArg (FloatOps.fptosi (F := Ideal) (φ := .f32) 8) ((congrArg₂ (fun p q => qcode p q _) e1 e2).trans (congrArg (qcode _ _) (blk0 m c t a k)))

/-- What a step leaves in its block of the row of steps. -/
theorem left8 (c : Dev nD) (t : Fin cfg0.N) (h : 4 ≤ t.val) (h' : t.val < 12 ∨ t.val = 23) (y : S1x256.Idx) :
    k0_pay4 (F := Ideal) (k0_pay203 (iblk m c 1 t) (iblk m c 2 t)) (k0_pay204 (iblk m c 1 t) (iblk m c 2 t)) (iota .tc S256x128 32 [1] iota_S256x128_d1_w32) (Scalar.ofBits .f32 0x00000000#32) y = goal8 m c ((win0_8.blk t).view.emb y) := by
  have ht := point_lt t
  obtain ⟨a, rfl⟩ : ∃ a : Fin 256, y = ix2 (0 : Fin 1) a := ⟨y 1, (eq_ix2 y).trans (congrArg (fun z : Fin 1 => ix2 z (y 1)) (Subsingleton.elim _ _))⟩
  have hi : (if t.val < 12 then t.val - 4 else 7) = t.val % 12 - 4 := by
    split <;> omega
  have he : (win0_8.blk t).view.emb (ix2 (0 : Fin 1) a) = (ix2 (0 : Fin 1) ⟨(t.val % 12 - 4) * 256 + a.val, by omega⟩ : S1x2048.Idx) := by
    blk_ext [idx' t, hi]
  rw [he]
  unfold goal8
  refine (step_row_apply _ _ _ a).trans (Eq.trans ?_ (ref_step_row _ _ _).symm)
  have e1 : (fun x => iblk m c 1 t (ix2 a x : S256x128.Idx)) = fun x => m ((c : Thread nD τ).loc main_arg1) (ix2 ⟨(t.val % 12 - 4) * 256 + a.val, by omega⟩ x : S2048x128.Idx) := funext fun x => blk1 m c t a x
  have e2 : (fun x => iblk m c 2 t (ix2 a x : S256x128.Idx)) = fun x => m ((c : Thread nD τ).loc main_arg2) (ix2 ⟨(t.val % 12 - 4) * 256 + a.val, by omega⟩ x : S2048x128.Idx) := funext fun x => blk2 m c t a x
  exact congrArg₂ qstep e1 e2

/-- What a step leaves in its block of the row of zero points. -/
theorem left9 (c : Dev nD) (t : Fin cfg0.N) (h : 4 ≤ t.val) (h' : t.val < 12 ∨ t.val = 23) (y : S1x256.Idx) :
    k0_pay5 (F := Ideal) (k0_pay203 (iblk m c 1 t) (iblk m c 2 t)) (k0_pay204 (iblk m c 1 t) (iblk m c 2 t)) (iota .tc S256x128 32 [1] iota_S256x128_d1_w32) (Scalar.ofBits .f32 0x00000000#32) y = goal9 m c ((win0_9.blk t).view.emb y) := by
  have ht := point_lt t
  obtain ⟨a, rfl⟩ : ∃ a : Fin 256, y = ix2 (0 : Fin 1) a := ⟨y 1, (eq_ix2 y).trans (congrArg (fun z : Fin 1 => ix2 z (y 1)) (Subsingleton.elim _ _))⟩
  have hi : (if t.val < 12 then t.val - 4 else 7) = t.val % 12 - 4 := by
    split <;> omega
  have he : (win0_9.blk t).view.emb (ix2 (0 : Fin 1) a) = (ix2 (0 : Fin 1) ⟨(t.val % 12 - 4) * 256 + a.val, by omega⟩ : S1x2048.Idx) := by
    blk_ext [idx' t, hi]
  rw [he]
  unfold goal9
  refine (zero_row_apply _ _ _ a).trans (Eq.trans ?_ (ref_zero_row _ _ _).symm)
  have e1 : (fun x => iblk m c 1 t (ix2 a x : S256x128.Idx)) = fun x => m ((c : Thread nD τ).loc main_arg1) (ix2 ⟨(t.val % 12 - 4) * 256 + a.val, by omega⟩ x : S2048x128.Idx) := funext fun x => blk1 m c t a x
  have e2 : (fun x => iblk m c 2 t (ix2 a x : S256x128.Idx)) = fun x => m ((c : Thread nD τ).loc main_arg2) (ix2 ⟨(t.val % 12 - 4) * 256 + a.val, by omega⟩ x : S2048x128.Idx) := funext fun x => blk2 m c t a x
  exact congrArg (FloatOps.fptosi (F := Ideal) (φ := .f32) 32) (congrArg₂ qzero e1 e2)

end Cert.DownIdeal.Own

end
-- ==== Proof.DownFrame.lean ====
/- The down projection as a whole run: what its scratch holds from step to step, and its four result arrays named. -/
module

public import proofs.«01_k».proof.Proof.DownSteps
public import Idealize.ShloMosaic.Lib.Claim
public import Idealize.ShloMosaic.Lib.Pipeline.DatRel
public import Idealize.ShloMosaic.Lib.Pipeline.ArrRel

@[expose] public section

set_option maxRecDepth 16384

noncomputable section

namespace Cert.DownIdeal.Own

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg)

/-- The result windows, of which what a step leaves is held to a predicate. -/
def held0 : Fin 10 → Bool := fun w => w.val == 6 || w.val == 7 || w.val == 8 || w.val == 9

/-- What is asked of each result window after a step: where the step computes the block that the window is on, the block of the reference's result. -/
def rel0 (c : Dev nD) (w : Fin cfg0.W) (t : Fin cfg0.N) : ((cfg0.win w).block.Idx → Elt Ideal (cfg0.win w).elt) → Prop := match w with
  | ⟨6, _⟩ => fun (X : S256x1536.Idx → EReal) => 4 ≤ t.val % 12 → ∀ y, X y = goal6 m c ((win0_6.blk t).view.emb y)
  | ⟨7, _⟩ => fun (X : S256x8192.Idx → BitVec 8) => 4 ≤ t.val % 12 → t.val < 12 ∨ t.val = 23 → ∀ y, X y = goal7 m c ((win0_7.blk t).view.emb y)
  | ⟨8, _⟩ => fun (X : S1x256.Idx → EReal) => 4 ≤ t.val % 12 → t.val < 12 ∨ t.val = 23 → ∀ y, X y = goal8 m c ((win0_8.blk t).view.emb y)
  | ⟨9, _⟩ => fun (X : S1x256.Idx → BitVec 32) => 4 ≤ t.val % 12 → t.val < 12 ∨ t.val = 23 → ∀ y, X y = goal9 m c ((win0_9.blk t).view.emb y)
  | _ => fun _ => True

/-- The proof data of the one pipeline on core `c`: each input's buffer at its block, and the scratch at contents of which `Inv` holds. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := iprop((∃ W, ⌜Inv m c t.val W⌝ ∗ owns (c : Thread nD τ) scM0_0 fullShare W) ∗ (∃ r, prngReg c r))
  q _ := fullShare
  owed _ := 0

/-- The invariant before a step. -/
theorem Phi_eq (c : Dev nD) (t : Fin (cfg0.N + 1)) :
    (dats m 0 c).Φ t = (iprop((∃ W, ⌜Inv m c t.val W⌝ ∗ owns (c : Thread nD τ) scM0_0 fullShare W) ∗ (∃ r, prngReg c r)) : sProp 𝕄) := by
  dsimp only [dats]

/-- The proof data's arrays are the region-entry contents. -/
theorem A_eq (c : Dev nD) (w : Fin cfg0.W) : (dats m 0 c).A w = V m c (Pipeline.arrRef spec0 w) := by
  dsimp only [dats]

/-- What the body leaves in the inputs' buffers. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜((dats m 0 c).toRRel held0 (rel0 m c)).Finds 6 t Y⌝ ∗ owns (c : Thread nD τ) (ms0_6 t) fullShare Y)
    ∗ (∃ Y, ⌜((dats m 0 c).toRRel held0 (rel0 m c)).Finds 7 t Y⌝ ∗ owns (c : Thread nD τ) (ms0_7 t) fullShare Y)
    ∗ (∃ Y, ⌜((dats m 0 c).toRRel held0 (rel0 m c)).Finds 8 t Y⌝ ∗ owns (c : Thread nD τ) (ms0_8 t) fullShare Y)
    ∗ (∃ Y, ⌜((dats m 0 c).toRRel held0 (rel0 m c)).Finds 9 t Y⌝ ∗ owns (c : Thread nD τ) (ms0_9 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜rel0 m c 6 t X⌝ ∗ owns (c : Thread nD τ) (ms0_6 t) fullShare X)
    ∗ (∃ X, ⌜rel0 m c 7 t X⌝ ∗ owns (c : Thread nD τ) (ms0_7 t) fullShare X)
    ∗ (∃ X, ⌜rel0 m c 8 t X⌝ ∗ owns (c : Thread nD τ) (ms0_8 t) fullShare X)
    ∗ (∃ X, ⌜rel0 m c 9 t X⌝ ∗ owns (c : Thread nD τ) (ms0_9 t) fullShare X))

set_option maxHeartbeats 2400000 in
/-- The body at any point: the closed forms say which of the three cases the point is in, and the case's run applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).owesAt () t.succ = (dats m 0 c).owesAt () t.castSucc from rfl, Phi_eq, Phi_eq]
  rw [show (t.castSucc : Fin (cfg0.N + 1)).val = t.val from rfl, show (t.succ : Fin (cfg0.N + 1)).val = t.val + 1 from rfl]
  have hN : t.val < 24 := point_lt t
  by_cases h0 : t.val < 4
  · have h1 : ¬ t.val % 12 + 1 ≤ 4 * (t.val / 12 % 2) := by omega
    have h2 : ¬ 4 ≤ t.val % 12 := by omega
    iintro ⟨⟨⟨%W, %hW, HS0⟩, Hg⟩, Ho, ⟨%d0, H0⟩, ⟨%d1, H1⟩, ⟨%d2, H2⟩, ⟨%d3, H3⟩, ⟨%d4, H4⟩, ⟨%d5, H5⟩, ⟨%d6, %f6, H6⟩, ⟨%d7, %f7, H7⟩, ⟨%d8, %f8, H8⟩, ⟨%d9, %f9, H9⟩⟩
    iapply ((kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)).2 W Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    iintro ⟨H0, H1, H2, H3, H4, H5, H6, H7, H8, H9, HS0⟩
    rw [stores_A]
    isplitl [HS0 Hg]
    · isplitl [HS0]
      · iexists _; isplitr
        swap
        · unfold owns; iexists _; isplitr; swap; · iexact HS0
          ipureintro; rfl
        ipureintro
        exact inv_low m c t h0 ((hcond0_0 t).mpr h0) _ _ (by rw [(Memref.isWhole_whole _).read_unread]; exact hW)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · icases H6 with ⟨%X6, H6⟩; iexists X6; isplitr; · ipureintro; exact fun h => absurd h (by omega)
      iexact H6
    isplitl [H7]
    · icases H7 with ⟨%X7, H7⟩; iexists X7; isplitr; · ipureintro; exact fun h => absurd h (by omega)
      iexact H7
    isplitl [H8]
    · icases H8 with ⟨%X8, H8⟩; iexists X8; isplitr; · ipureintro; exact fun h => absurd h (by omega)
      iexact H8
    icases H9 with ⟨%X9, H9⟩; iexists X9; isplitr; · ipureintro; exact fun h => absurd h (by omega)
    iexact H9
  · by_cases h1 : t.val % 12 + 1 ≤ 4 * (t.val / 12 % 2)
    · have h2 : ¬ 4 ≤ t.val % 12 := by omega
      iintro ⟨⟨⟨%W, %hW, HS0⟩, Hg⟩, Ho, ⟨%d0, H0⟩, ⟨%d1, H1⟩, ⟨%d2, H2⟩, ⟨%d3, H3⟩, ⟨%d4, H4⟩, ⟨%d5, H5⟩, ⟨%d6, %f6, H6⟩, ⟨%d7, %f7, H7⟩, ⟨%d8, %f8, H8⟩, ⟨%d9, %f9, H9⟩⟩
      iapply ((kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t)).2 W Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, H3, H4, H5, H6, H7, H8, H9, HS0⟩
      rw [stores_C]
      isplitl [HS0 Hg]
      · isplitl [HS0]
        · iexists _; isplitr
          swap
          · unfold owns; iexists _; isplitr; swap; · iexact HS0
            ipureintro; rfl
          ipureintro
          exact inv_high m c t (by omega) (by omega) ((hcond0_1 t).mpr h1) _ _ (by rw [(Memref.isWhole_whole _).read_unread]; exact hW)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · icases H6 with ⟨%X6, H6⟩; iexists X6; isplitr; · ipureintro; exact fun h => absurd h (by omega)
        iexact H6
      isplitl [H7]
      · icases H7 with ⟨%X7, H7⟩; iexists X7; isplitr; · ipureintro; exact fun h => absurd h (by omega)
        iexact H7
      isplitl [H8]
      · icases H8 with ⟨%X8, H8⟩; iexists X8; isplitr; · ipureintro; exact fun h => absurd h (by omega)
        iexact H8
      icases H9 with ⟨%X9, H9⟩; iexists X9; isplitr; · ipureintro; exact fun h => absurd h (by omega)
      iexact H9
    · have h2 : 4 ≤ t.val % 12 := by omega
      iintro ⟨⟨⟨%W, %hW, HS0⟩, Hg⟩, Ho, ⟨%d0, H0⟩, ⟨%d1, H1⟩, ⟨%d2, H2⟩, ⟨%d3, H3⟩, ⟨%d4, H4⟩, ⟨%d5, H5⟩, ⟨%d6, %f6, H6⟩, ⟨%d7, %f7, H7⟩, ⟨%d8, %f8, H8⟩, ⟨%d9, %f9, H9⟩⟩
      iapply ((kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) W).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [HS0]; · iexact HS0
      iintro ⟨H0, H1, H2, H3, H4, H5, ⟨%e6, H6⟩, ⟨%e7, H7⟩, ⟨%e8, H8⟩, ⟨%e9, H9⟩, HS0⟩
      isplitl [HS0 Hg]
      · isplitl [HS0]
        · iexists W; isplitr; · ipureintro; exact inv_keep m c t h2 W hW
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) W).1); isplitr
        · ipureintro; exact (fun h y => (congrFun (stored_B_6 c _ _ _ _ _ _ _ _ _ _ _ _ _ _ _ _ _ _ _ _ _ _ _ _ _ _ _ _ _ _ _ _ _) y).trans (left6 m c t h W hW y))
        unfold owns; iexists _; isplitr; swap; · iexact H6
        ipureintro; funext y; exact View.read_writes_apply_eq_canon _ _ _ _ (cover_B_6 c _ _ _ _ _ _ _ _ _ _ _ _ _ _ _ _ _ _ _ _ _ _ _ _ _ _ _ _ _ _ _ _ _ y)
      isplitl [H7]
      · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) W).2.1); isplitr
        · ipureintro; exact (fun h h' y => (congrFun (stored_B_7 c _ _ _ _ _ _ _ _ _ _ _ _ _ _ _ _ _ _ _ _ _ _ _ _ _ _ _ _ _ _ _ _ _) y).trans (left7 m c t (by omega) h' y))
        unfold owns; iexists _; isplitr; swap; · iexact H7
        ipureintro; funext y; exact View.read_writes_apply_eq_canon _ _ _ _ (cover_B_7 c _ _ _ _ _ _ _ _ _ _ _ _ _ _ _ _ _ _ _ _ _ _ _ _ _ _ _ _ _ _ _ _ _ y)
      isplitl [H8]
      · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) W).2.2.1); isplitr
        · ipureintro; exact (fun h h' y => (congrFun (stored_B_8 c _ _ _ _ _ _ _ _ _ _ _ _ _ _ _ _ _ _ _ _ _ _ _ _ _ _ _ _ _ _ _ _ _) y).trans (left8 m c t (by omega) h' y))
        unfold owns; iexists _; isplitr; swap; · iexact H8
        ipureintro; funext y; exact View.read_writes_apply_eq_canon _ _ _ _ (cover_B_8 c _ _ _ _ _ _ _ _ _ _ _ _ _ _ _ _ _ _ _ _ _ _ _ _ _ _ _ _ _ _ _ _ _ y)
      iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) W).2.2.2.1); isplitr
      · ipureintro; exact (fun h h' y => (congrFun (stored_B_9 c _ _ _ _ _ _ _ _ _ _ _ _ _ _ _ _ _ _ _ _ _ _ _ _ _ _ _ _ _ _ _ _ _) y).trans (left9 m c t (by omega) h' y))
      unfold owns; iexists _; isplitr; swap; · iexact H9
      ipureintro; funext y; exact View.read_writes_apply_eq_canon _ _ _ _ (cover_B_9 c _ _ _ _ _ _ _ _ _ _ _ _ _ _ _ _ _ _ _ _ _ _ _ _ _ _ _ _ _ _ _ _ _ y)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationRel (dats m 0 c) (defs₀ (F := Ideal)) Variants.none () Set.univ held0 (rel0 m c) := fun t => by
  rw [bigSep_W0, bigSep_W0, defs₀_row]
  exact triple_restated (sound_body m c t) rfl .rfl fun _ => .rfl

/-- The invariant before the first step is the class's. -/
theorem Phi_in (c : Dev nD) : Pipeline.ΦA spec0 c ⊢ (dats m 0 c).Φ 0 := by
  rw [PhiA0_eq, Phi_eq]
  iintro ⟨⟨%W, HS0⟩, Hg⟩
  isplitl [HS0]
  · iexists W; isplitr; · ipureintro; exact inv_zero m c W
    iexact HS0
  iexact Hg

/-- The invariant after the last step gives the class's. -/
theorem Phi_out (c : Dev nD) : (dats m 0 c).Φ (Fin.last cfg0.N) ⊢ Pipeline.ΦA spec0 c := by
  rw [PhiA0_eq, Phi_eq]
  iintro ⟨⟨%W, %hW, HS0⟩, Hg⟩
  isplitl [HS0]
  · iexists W; iexact HS0
  iexact Hg

set_option backward.isDefEq.respectTransparency.types false in
/-- The launch: the run's statement, and every semaphore counter of the machine at zero at every final state. -/
theorem run_main_quiescent : θ_run defs (onTc (τ := τ) (main (F := Ideal))) (s₀ m ρ)
    (fun r => (RDat.FramePost (cfgs 0) (fun c => (dats m 0 c).toRRel held0 (rel0 m c)) (V m)) r ∧ r.2.sem = fun _ => 0) :=
  RDat.θ_run_frame_track cfgs (0 : Fin 1) launch0 defs₀ Variants.none (fun c => (dats m 0 c).toRRel held0 (rel0 m c)) m ρ main
    (fun c => (body_obligation m c).toRRel) (fun c => (dats m 0 c).share_full fun _ => rfl) (fun _ _ => rfl) (V m) (hmain m Variants.none) (A_eq m)
    (Phi_in m) (Phi_out m) _ (fun _ h => h)

/-- The run with the four result arrays named and the arguments as launched. -/
theorem run_blocks : θ_run defs (onTc (τ := τ) (main (F := Ideal))) ⟨m, fun _ => 0, ρ⟩ fun r => ∀ c : Dev nD,
      r.2.mem ((c : Thread nD τ).loc main_v0_0) = goal6 m c
      ∧ r.2.mem ((c : Thread nD τ).loc main_v0_1) = goal7 m c
      ∧ r.2.mem ((c : Thread nD τ).loc main_v0_2) = goal8 m c
      ∧ r.2.mem ((c : Thread nD τ).loc main_v0_3) = goal9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
    obtain ⟨h, -⟩ := h
    obtain ⟨after, hL, hA⟩ := RDat.FramePost.exists_exact h c
    refine ⟨(hA 6).trans ?_, (hA 7).trans ?_, (hA 8).trans ?_, (hA 9).trans ?_,
      (RDat.FramePost.arr_in h c 0 rfl).trans ((A_eq m c 0).trans (V_main_arg0 m c)),
      (RDat.FramePost.arr_in h c 1 rfl).trans ((A_eq m c 1).trans (V_main_arg1 m c)),
      (RDat.FramePost.arr_in h c 2 rfl).trans ((A_eq m c 2).trans (V_main_arg2 m c)),
      (RDat.FramePost.arr_in h c 3 rfl).trans ((A_eq m c 3).trans (V_main_arg3 m c)),
      (RDat.FramePost.arr_in h c 4 rfl).trans ((A_eq m c 4).trans (V_main_arg4 m c)),
      (RDat.FramePost.arr_in h c 5 rfl).trans ((A_eq m c 5).trans (V_main_arg5 m c))⟩
    · refine Dat.arrAt_eq_of_covers _ 6 _ (by decide +kernel) fun t hf y => ?_
      have hX := Dat.toRRel_leaves (dats m 0 c) (fgt := held0) (Rl := rel0 m c) (w := 6) rfl (hL 6 t hf)
      have ht := (by decide +kernel : ∀ t : Fin grid0.N, win0_6.flush t = true → 4 ≤ t.val % 12) t hf
      exact hX ht y
    · refine Dat.arrAt_eq_of_covers _ 7 _ (by decide +kernel) fun t hf y => ?_
      have hX := Dat.toRRel_leaves (dats m 0 c) (fgt := held0) (Rl := rel0 m c) (w := 7) rfl (hL 7 t hf)
      have ht := (by decide +kernel : ∀ t : Fin grid0.N, win0_7.flush t = true → 4 ≤ t.val % 12 ∧ (t.val < 12 ∨ t.val = 23)) t hf
      exact hX ht.1 ht.2 y
    · refine Dat.arrAt_eq_of_covers _ 8 _ (by decide +kernel) fun t hf y => ?_
      have hX := Dat.toRRel_leaves (dats m 0 c) (fgt := held0) (Rl := rel0 m c) (w := 8) rfl (hL 8 t hf)
      have ht := (by decide +kernel : ∀ t : Fin grid0.N, win0_8.flush t = true → 4 ≤ t.val % 12 ∧ (t.val < 12 ∨ t.val = 23)) t hf
      exact hX ht.1 ht.2 y
    · refine Dat.arrAt_eq_of_covers _ 9 _ (by decide +kernel) fun t hf y => ?_
      have hX := Dat.toRRel_leaves (dats m 0 c) (fgt := held0) (Rl := rel0 m c) (w := 9) rfl (hL 9 t hf)
      have ht := (by decide +kernel : ∀ t : Fin grid0.N, win0_9.flush t = true → 4 ≤ t.val % 12 ∧ (t.val < 12 ∨ t.val = 23)) t hf
      exact hX ht.1 ht.2 y
    ) (run_main_quiescent m ρ)

/-- The frame: the arguments end unchanged and every counter is at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => (h c).2.2.2.2) (run_blocks m ρ)) ((θ_run defs _ _).mono (fun _ h => h.2) (run_main_quiescent m ρ))

end Cert.DownIdeal.Own

end
-- ==== Proof.ProjBits.lean ====
/- The output projection as a whole run at any float values: it ends, with its arguments unchanged. -/
module

public import proofs.«01_k».proof.Proof.Gen.Proj.Frame
public import proofs.«01_k».proof.Proof.Gen.Proj.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proj.Own

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the points before point 4 — decided over the grid. -/
theorem hcond0_0 : ∀ t : Fin cfg0.N, cond0_0 (grid0.coords t) ↔ t.val < 4 :=
  (by decide +kernel : ∀ t : Fin grid0.N, cond0_0 (grid0.coords t) ↔ t.val < 4)

/-- The condition of the body's `scf.if` 1 (`k0_h2`), from the grid coordinates (the skeleton's scalar
    chain substituted). -/
abbrev cond0_1 (i : grid0.Coords) : Prop := k0_cond2 i = 1#1
/-- It holds at the points from point 4 on — decided over the grid. -/
theorem hcond0_1 : ∀ t : Fin cfg0.N, cond0_1 (grid0.coords t) ↔ 4 ≤ t.val :=
  (by decide +kernel : ∀ t : Fin grid0.N, cond0_1 (grid0.coords t) ↔ 4 ≤ t.val)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl

/-- Each window's current staging memref at point `t`, spelled as the pipeline passes it (`bodyAt0`), and its wholeness. -/
abbrev ms0_0 (t : Fin cfg0.N) : Memref sig .tc .vmem S256x3072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x1536 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S24x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x3072 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3072 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x3072 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x3072 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .i32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x128 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S3072x3072 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1808000 in
/-- The body's triple IN CASE A (`scf.if` 0 taken, `scf.if` 1 not taken: points 0, 1, 2, 3): on whole staging memrefs — the inputs' at their contents,
    the FORGOTTEN outputs' (5, 6, 7, 8, 9, 10, 11, 12, 13) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_A (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : cond0_0 i) (hc1 : ¬cond0_1 i)
    (x0 : Vec F S256x3072 .f32) (x1 : Vec F S256x3072 .bf16) (x2 : Vec F S1x3072 .f32) (x3 : Vec F S768x1536 .i8) (x4 : Vec F S24x3072 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact HS0
    ipureintro; rfl

set_option maxHeartbeats 1000000 in
/-- The body's triple IN CASE B (`scf.if` 0 not taken, `scf.if` 1 taken: points 4, 5, … 11: 8 of 12): on whole staging memrefs — the inputs' at their contents,
    the FORGOTTEN outputs' (5, 6, 7, 8, 9, 10, 11, 12, 13) at anything, handed back at some contents nothing names —
    the body runs to the continuation holding the inputs' as they were, the scratch at some contents: the printed functions are their skeletons (`Gen.*_eq_skeleton`),
    which `sl_exec` runs — each `scf.if` decided by the case's hypotheses `hc·`. -/
theorem kernelRun0_B (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec F S256x3072 .f32) (x1 : Vec F S256x3072 .bf16) (x2 : Vec F S1x3072 .f32) (x3 : Vec F S768x1536 .i8) (x4 : Vec F S24x3072 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_proj_eq_skeleton]; unfold cc0_proj_skel
    simp only [k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact HS0
    ipureintro; rfl

/-- The output windows this certificate FORGETS (5, 6, 7, 8, 9, 10, 11, 12, 13): nothing reads what the kernel leaves in them, so nothing
    of it is named. -/
def forgets0 : Fin 14 → Bool := fun w => w.val == 5 || w.val == 6 || w.val == 7 || w.val == 8 || w.val == 9 || w.val == 10 || w.val == 11 || w.val == 12 || w.val == 13

/-- The proof data of the one pipeline on core `c`: the arrays as the region finds them (`V`); after the body at
    point `t` each input's buffer at its block and the outputs, FORGOTTEN, at `Dat.unnamed`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 12 := lt_of_lt_of_eq t.isLt (show cfg0.N = 12 from N_0)
  by_cases h0 : t.val < 4
  · by_cases h1 : 4 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, H8, H9, H10, H11, H12, H13, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · by_cases h1 : 4 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, H8, H9, H10, H11, H12, H13, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9, 10, 11, 12, 13), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The run with the arguments as launched. -/
theorem unchanged : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r (h : Pipeline.RDat.FramePost (cfgs 0) (fun c => (dats m 0 c).toRForget forgets0) (V m) r) c => ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      (Pipeline.RDat.FramePost.arr_in h c 3 rfl).trans ((A_eq m c 3).trans (V_main_arg3 m c)),
      (Pipeline.RDat.FramePost.arr_in h c 4 rfl).trans ((A_eq m c 4).trans (V_main_arg4 m c))⟩)
    (run_main m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proj.Own

end
-- ==== Proof.ProjRun.lean ====
/- The output projection's body run once in each of its two cases: what it writes is named. -/
module

public import proofs.«01_k».proof.Proof.Gen.ProjIdeal.Frame
public import proofs.«01_k».proof.Proof.Gen.ProjIdeal.Skeleton

@[expose] public section

set_option maxRecDepth 16384

noncomputable section

namespace Cert.ProjIdeal.Own

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the points before point 4 — decided over the grid. -/
theorem hcond0_0 : ∀ t : Fin cfg0.N, cond0_0 (grid0.coords t) ↔ t.val < 4 :=
  (by decide +kernel : ∀ t : Fin grid0.N, cond0_0 (grid0.coords t) ↔ t.val < 4)

/-- The condition of the body's `scf.if` 1 (`k0_h2`), from the grid coordinates (the skeleton's scalar
    chain substituted). -/
abbrev cond0_1 (i : grid0.Coords) : Prop := k0_cond2 i = 1#1
/-- It holds at the points from point 4 on — decided over the grid. -/
theorem hcond0_1 : ∀ t : Fin cfg0.N, cond0_1 (grid0.coords t) ↔ 4 ≤ t.val :=
  (by decide +kernel : ∀ t : Fin grid0.N, cond0_1 (grid0.coords t) ↔ 4 ≤ t.val)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl

/-- Each window's current staging memref at point `t`, spelled as the pipeline passes it (`bodyAt0`), and its wholeness. -/
abbrev ms0_0 (t : Fin cfg0.N) : Memref sig .tc .vmem S256x3072 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x1536 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S24x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x3072 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3072 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x3072 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x3072 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .i32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x128 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S3072x3072 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 6000000 in
/-- The body at a step that widens the weight, as a run: the pieces it writes into the scratch, whatever the scratch held. -/
noncomputable def kernelRun0_A (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : cond0_0 i) (hc1 : ¬cond0_1 i)
    (x0 : Vec F S256x3072 .f32) (x1 : Vec F S256x3072 .bf16) (x2 : Vec F S1x3072 .f32) (x3 : Vec F S768x1536 .i8) (x4 : Vec F S24x3072 .f32) :
    { L : List (View.Piece (Elt F) S3072x3072 .bf16) //
      ∀ (w : Vec F S3072x3072 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare w
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ arg15.view.loc (c : Thread nD τ) ↦[arg15.view.set]{fullShare} arg15.view.writes (Elt F) (harg15.unread w) L) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun w E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg15.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexact HS0

set_option maxHeartbeats 6000000 in
/-- The body at a step that multiplies, as a run from a scratch holding `w`: the pieces it leaves in the nine results' buffers. -/
noncomputable def kernelRun0_B (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec F S256x3072 .f32) (x1 : Vec F S256x3072 .bf16) (x2 : Vec F S1x3072 .f32) (x3 : Vec F S768x1536 .i8) (x4 : Vec F S24x3072 .f32) (w : Vec F S3072x3072 .bf16) :
    Σ' (L5 : List (View.Piece (Elt F) S256x3072 .f32)) (L6 : List (View.Piece (Elt F) S256x3072 .i8)) (L7 : List (View.Piece (Elt F) S1x256 .f32)) (L8 : List (View.Piece (Elt F) S1x256 .i32)) (L9 : List (View.Piece (Elt F) S256x3072 .i8)) (L10 : List (View.Piece (Elt F) S256x3072 .bf16)) (L11 : List (View.Piece (Elt F) S1x256 .f32)) (L12 : List (View.Piece (Elt F) S1x256 .i32)), { L13 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare w
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ owns (c : Thread nD τ) arg15 fullShare w) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, fun E K => ?run⟩
  case run =>
    simp only [cc0_proj_eq_skeleton]; unfold cc0_proj_skel
    simp only [k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg15.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; isplitr; · ipureintro; exact harg15.read_unread _
    iexact HS0

end Cert.ProjIdeal.Own

end
-- ==== Proof.ProjRow.lean ====
/- The rows of the output projection: the residual with the projection added, and its root-mean-square normalisation. -/
module

public import proofs.«01_k».proof.Proof.Quant

@[expose] public section

noncomputable section

namespace Cert.Own

open Idealize.ShloMosaic Idealize.ShloMosaic.ValueIdx

/-- A row of the residual with the quantised row `o` times the weight added. -/
def hrow (o x : Fin 3072 → EReal) (w : Fin 3072 → Fin 3072 → EReal) (n : Fin 3072) : EReal :=
  x n + (∑ k : Fin 3072, (qcode o o (o k) - qzero o o) * w k n) * qstep o o

/-- A row divided by its root mean square, times the gain. -/
def nrow (h g : Fin 3072 → EReal) (n : Fin 3072) : EReal :=
  Ideal.div (h n) (Ideal.sqrt (Ideal.div (∑ k : Fin 3072, h k * h k) (Ideal.ofBits .f32 1161822208#32) + Ideal.ofBits .f32 925353388#32)) * g n

end Cert.Own

end
-- ==== Proof.ProjPieces.lean ====
/- The output projection: what its stores hold, element by element. -/
module

public import proofs.«01_k».proof.Proof.Gen.ProjIdeal.Skeleton
public import proofs.«01_k».proof.Proof.Nibble
public import proofs.«01_k».proof.Proof.ProjRow
public import Idealize.ShloMosaic.Lib.Pipeline.ValueKit
public import Idealize.ShloMosaic.Lib.IdealHost
public import Idealize.ShloMosaic.Lib.Pointwise

@[expose] public section

set_option maxRecDepth 16384

noncomputable section

namespace Cert.ProjIdeal.Own

open Cert.ProjIdeal Cert.ProjIdeal.Gen Cert.Own
open Idealize.ShloMosaic Idealize.ShloMosaic.TcCoe Idealize.ShloMosaic.Tactic
open Idealize.SL.Sem

/-- One stored group of 32 rows of low nibbles, at an element. -/
theorem low_apply (p : Vec Ideal S32x1536 .i8) (s : Vec Ideal S1x1536 .f32) (a : Fin 32) (l : Fin 1536) :
    k0_pay6 (F := Ideal) p s (ix2 a l) = (((lowNibble (p (ix2 a l))).toInt : ℝ) : EReal) * s (ix2 0 l) := by
  pointwise [k0_pay6]
  rw [Ideal.ofBits_sixteenth_bf16, show bitcast S32x1536 8 (andi (shli (bitcast S8x1536 32 p bitcasts_S32x1536_w8_S8x1536_w32) (broadcast S8x1536 4#32))
    (broadcast S8x1536 4042322160#32)) bitcasts_S8x1536_w32_S32x1536_w8 (ix2 a l) = (p (ix2 a l) <<< 4) &&& 240#8 from
      bytes_apply p (fun w => (w <<< 4) &&& 4042322160#32) (fun b => (b <<< 4) &&& 240#8) rfl low_bits _ _ a l]
  refine (congrArg (· * _) ?_).trans (sixteenth (lowNibble (p (ix2 a l))).toInt (s (ix2 0 l)))
  exact congrArg (fun z : ℤ => ((z : ℝ) : EReal)) (low_int (p (ix2 a l)))

/-- One stored group of 32 rows of high nibbles, at an element. -/
theorem high_apply (p : Vec Ideal S32x1536 .i8) (s : Vec Ideal S1x1536 .f32) (a : Fin 32) (l : Fin 1536) :
    k0_pay1 (F := Ideal) p s (ix2 a l) = (((highNibble (p (ix2 a l))).toInt : ℝ) : EReal) * s (ix2 0 l) := by
  pointwise [k0_pay1]
  rw [Ideal.ofBits_sixteenth_bf16, show bitcast S32x1536 8 (andi (bitcast S8x1536 32 p bitcasts_S32x1536_w8_S8x1536_w32)
    (broadcast S8x1536 4042322160#32)) bitcasts_S8x1536_w32_S32x1536_w8 (ix2 a l) = p (ix2 a l) &&& 240#8 from
      bytes_apply p (fun w => w &&& 4042322160#32) (fun b => b &&& 240#8) rfl high_bits _ _ a l]
  refine (congrArg (· * _) ?_).trans (sixteenth (highNibble (p (ix2 a l))).toInt (s (ix2 0 l)))
  exact congrArg (fun z : ℤ => ((z : ℝ) : EReal)) (high_int (p (ix2 a l)))

/-- The least of a row. -/
theorem min_row (v : FVec Ideal S256x3072 .f32) (a : Fin 256) :
    multiReduction (F := Ideal) (φ := .f32) .minimumf [1] S256 v 0x7F800000#32 reduces_S256x3072_S256 (.inl rfl) rfl (ix1 a : S256.Idx)
      = Finset.fold min (Ideal.ofBits .f32 2139095040#32) (fun k => v (ix2 a k)) Finset.univ :=
  (multiReduction_minimumf_eq_fold v _ _ _ _ _).trans (Shape.Reduces.fold_fiber_r2_a1 reduces_S256x3072_S256 (ix1 a) _ _ v)

/-- The greatest of a row. -/
theorem max_row (v : FVec Ideal S256x3072 .f32) (a : Fin 256) :
    multiReduction (F := Ideal) (φ := .f32) .maximumf [1] S256 v 0xFF800000#32 reduces_S256x3072_S256 (.inl rfl) rfl (ix1 a : S256.Idx)
      = Finset.fold max (Ideal.ofBits .f32 4286578688#32) (fun k => v (ix2 a k)) Finset.univ :=
  (multiReduction_maximumf_eq_fold v _ _ _ _ _).trans (Shape.Reduces.fold_fiber_r2_a1 reduces_S256x3072_S256 (ix1 a) _ _ v)

/-- The sum of a row's squares. -/
theorem square_row (v : FVec Ideal S256x3072 .f32) (a : Fin 256) :
    multiReduction (F := Ideal) (φ := .f32) .add [1] S256 (mulf v v) 0x00000000#32 reduces_S256x3072_S256 (.inl rfl) rfl (ix1 a : S256.Idx) = ∑ k : Fin 3072, v (ix2 a k) * v (ix2 a k) :=
  (multiReduction_add_apply (mulf v v) _ _ _ _ _).trans (Ideal.reduceAdd_r2_a1 reduces_S256x3072_S256 (mulf v v) (ix1 a))

/-- The lower end of a row from its least value. -/
theorem low_of (p : FVec Ideal S256 .f32) (M : EReal) (a : Fin 256) (hp : p (ix1 a) = M) :
    minimumf (shapeCast S256x1 p shapeCasts_S256_S256x1) (broadcast S256x1 (FloatOps.ofBits (F := Ideal) .f32 0#32)) (ix2 a 0) = min M 0 := by
  pointwise []
  rw [hp]

/-- The step of a row from its greatest value and its lower end. -/
theorem step_of (q : FVec Ideal S256 .f32) (p : FVec Ideal S256x1 .f32) (M L : EReal) (a : Fin 256) (hq : q (ix1 a) = M) (hp : p (ix2 a 0) = L) :
    select (cmpf .oeq (subf (maximumf (shapeCast S256x1 q shapeCasts_S256_S256x1) (broadcast S256x1 (FloatOps.ofBits (F := Ideal) .f32 0#32))) p)
        (broadcast S256x1 (FloatOps.ofBits (F := Ideal) .f32 0#32)))
      (broadcast S256x1 (FloatOps.ofBits (F := Ideal) .f32 1065353216#32))
      (divf (subf (maximumf (shapeCast S256x1 q shapeCasts_S256_S256x1) (broadcast S256x1 (FloatOps.ofBits (F := Ideal) .f32 0#32))) p)
        (broadcast S256x1 (FloatOps.ofBits (F := Ideal) .f32 1132396544#32))) (ix2 a 0)
      = if max M 0 - L = 0 then 1 else Ideal.div (max M 0 - L) (Ideal.ofBits .f32 1132396544#32) := by
  pointwise []
  rw [hq, hp]

/-- The zero point of a row from its lower end and its step. -/
theorem zero_of (p s : FVec Ideal S256x1 .f32) (L S : EReal) (a : Fin 256) (hp : p (ix2 a 0) = L) (hs : s (ix2 a 0) = S) :
    minimumf (broadcast S256x1 (FloatOps.ofBits (F := Ideal) .f32 1123942400#32)) (maximumf (broadcast S256x1 (FloatOps.ofBits (F := Ideal) .f32 3271557120#32))
        (subf (broadcast S256x1 (FloatOps.ofBits (F := Ideal) .f32 3271557120#32)) (roundeven (divf p s)))) (ix2 a 0)
      = qclip (Ideal.ofBits .f32 3271557120#32 - Ideal.liftRound Ideal.roundHalfEven (Ideal.div L S)) := by
  unfold qclip
  pointwise []
  rw [hp, hs]

/-- The code of a value from its row's step and zero point. -/
theorem code_of (v : FVec Ideal S256x3072 .f32) (s z : FVec Ideal S256x1 .f32) (S Z : EReal) (a : Fin 256) (k : Fin 3072)
    (hs : s (ix2 a 0) = S) (hz : z (ix2 a 0) = Z) :
    minimumf (broadcast S256x3072 (FloatOps.ofBits (F := Ideal) .f32 1123942400#32)) (maximumf (broadcast S256x3072 (FloatOps.ofBits (F := Ideal) .f32 3271557120#32))
        (addf (roundeven (divf v (broadcastTo S256x3072 s broadcasts_S256x1_S256x3072))) (broadcastTo S256x3072 z broadcasts_S256x1_S256x3072))) (ix2 a k)
      = qclip (Ideal.liftRound Ideal.roundHalfEven (Ideal.div (v (ix2 a k)) S) + Z) := by
  unfold qclip
  pointwise []
  rw [hs, hz]

/-- The centred code from the code and the zero point. -/
theorem centred_of (c : FVec Ideal S256x3072 .f32) (z : FVec Ideal S256x1 .f32) (C Z : EReal) (a : Fin 256) (k : Fin 3072)
    (hc : c (ix2 a k) = C) (hz : z (ix2 a 0) = Z) :
    truncf .bf16 (subf c (broadcastTo S256x3072 z broadcasts_S256x1_S256x3072)) bitsLt_bf16_f32 (ix2 a k) = C - Z := by
  pointwise []
  rw [hc, hz]

/-- The row's lower end, as the kernel computes it. -/
theorem low_end_apply (v : Vec Ideal S256x3072 .f32) (a : Fin 256) : k0_pay84 (F := Ideal) v (ix2 a 0) = qlow (fun x => v (ix2 a x)) := by
  unfold k0_pay84 qlow
  exact low_of _ _ a (min_row v a)

/-- The row's step, as the kernel computes it. -/
theorem step_apply (v : Vec Ideal S256x3072 .f32) (a : Fin 256) :
    k0_pay85 (F := Ideal) v (ix2 a 0) = qstep (fun x => v (ix2 a x)) (fun x => v (ix2 a x)) := by
  unfold k0_pay85 qstep qhigh
  exact step_of _ _ _ _ a (max_row v a) (low_end_apply v a)

/-- The row's zero point, as the kernel computes it. -/
theorem zero_apply (v : Vec Ideal S256x3072 .f32) (a : Fin 256) :
    k0_pay86 (F := Ideal) v (ix2 a 0) = qzero (fun x => v (ix2 a x)) (fun x => v (ix2 a x)) := by
  unfold k0_pay86 qzero
  exact zero_of _ _ _ _ a (low_end_apply v a) (step_apply v a)

/-- The code of a value, as the kernel computes it. -/
theorem code_apply (v : Vec Ideal S256x3072 .f32) (a : Fin 256) (k : Fin 3072) :
    k0_pay87 (F := Ideal) v (ix2 a k) = qcode (fun x => v (ix2 a x)) (fun x => v (ix2 a x)) (v (ix2 a k)) := by
  unfold k0_pay87 qcode
  exact code_of _ _ _ _ _ a k (step_apply v a) (zero_apply v a)

/-- The code's byte, as the kernel stores it. -/
theorem byte_apply (v : Vec Ideal S256x3072 .f32) (a : Fin 256) (k : Fin 3072) :
    k0_pay88 (F := Ideal) v (ix2 a k)
      = FloatOps.fptosi (F := Ideal) (φ := .f32) 8 (qcode (fun x => v (ix2 a x)) (fun x => v (ix2 a x)) (v (ix2 a k))) := by
  unfold k0_pay88
  exact congrArg (FloatOps.fptosi (F := Ideal) (φ := .f32) 8) (code_apply v a k)

/-- The centred code, as the kernel multiplies it. -/
theorem centred_apply (v : Vec Ideal S256x3072 .f32) (a : Fin 256) (k : Fin 3072) :
    k0_pay90 (F := Ideal) v (ix2 a k)
      = qcode (fun x => v (ix2 a x)) (fun x => v (ix2 a x)) (v (ix2 a k)) - qzero (fun x => v (ix2 a x)) (fun x => v (ix2 a x)) := by
  unfold k0_pay90
  exact centred_of _ _ _ _ a k (code_apply v a k) (zero_apply v a)

/-- The residual with a scaled product added, at an element. -/
theorem residual_apply (u : Vec Ideal S256x1 .f32) (v : Vec Ideal S256x3072 .f32) (z : Vec Ideal S256x3072 .bf16) (w : Vec Ideal S3072x3072 .bf16) (a : Fin 256) (n : Fin 3072) :
    k0_pay91 (F := Ideal) u v z w (ix2 a n) = v (ix2 a n) + (∑ k : Fin 3072, z (ix2 a k) * w (ix2 k n)) * u (ix2 a 0) := by
  pointwise [k0_pay91]

/-- The residual with the projection added, at an element. -/
theorem hidden_apply (o : Vec Ideal S256x3072 .f32) (x : Vec Ideal S256x3072 .bf16) (w : Vec Ideal S3072x3072 .bf16) (a : Fin 256) (n : Fin 3072) :
    k0_pay91 (F := Ideal) (k0_pay85 o) (k0_pay89 x) (k0_pay90 o) w (ix2 a n)
      = hrow (fun k => o (ix2 a k)) (fun k => x (ix2 a k)) (fun k n => w (ix2 k n)) n := by
  refine (residual_apply _ _ _ _ a n).trans ?_
  have e : ∀ k : Fin 3072, k0_pay90 (F := Ideal) o (ix2 a k) = _ := fun k => centred_apply o a k
  have f : k0_pay89 (F := Ideal) x (ix2 a n) = x (ix2 a n) := by pointwise [k0_pay89]
  have s := step_apply o a
  unfold hrow
  generalize k0_pay90 (F := Ideal) o = c at e ⊢
  generalize k0_pay89 (F := Ideal) x = y at f ⊢
  generalize k0_pay85 (F := Ideal) o = p at s ⊢
  rw [f, s, Finset.sum_congr rfl (fun k _ => congrArg (fun C : EReal => C * w (ix2 k n)) (e k))]

section Norm

variable (u : Vec Ideal S256x1 .f32) (v : Vec Ideal S256x3072 .f32) (z : Vec Ideal S256x3072 .bf16) (w : Vec Ideal S3072x3072 .bf16) (g : Vec Ideal S1x3072 .f32)

/-- The normalised row, at an element. -/
theorem norm_apply (a : Fin 256) (n : Fin 3072) :
    k0_pay92 (F := Ideal) u v z w g (ix2 a n) = nrow (fun k => k0_pay91 (F := Ideal) u v z w (ix2 a k)) (fun k => g (ix2 0 k)) n := by
  unfold k0_pay92
  generalize k0_pay91 (F := Ideal) u v z w = h
  have hp := square_row h a
  generalize multiReduction (F := Ideal) (φ := .f32) .add [1] S256 (mulf h h) 0x00000000#32 reduces_S256x3072_S256 (.inl rfl) rfl = p at hp ⊢
  pointwise []
  rw [hp]
  rfl

/-- The lower end of the normalised row. -/
theorem low2_apply (a : Fin 256) :
    k0_pay93 (F := Ideal) u v z w g (ix2 a 0) = qlow (fun k => k0_pay92 (F := Ideal) u v z w g (ix2 a k)) := by
  unfold k0_pay93 qlow
  exact low_of _ _ a (min_row (k0_pay92 (F := Ideal) u v z w g) a)

/-- The step of the normalised row. -/
theorem step2_apply (a : Fin 256) :
    k0_pay94 (F := Ideal) u v z w g (ix2 a 0)
      = qstep (fun k => k0_pay92 (F := Ideal) u v z w g (ix2 a k)) (fun k => k0_pay92 (F := Ideal) u v z w g (ix2 a k)) := by
  unfold k0_pay94 qstep qhigh
  exact step_of _ _ _ _ a (max_row (k0_pay92 (F := Ideal) u v z w g) a) (low2_apply u v z w g a)

/-- The zero point of the normalised row. -/
theorem zero2_apply (a : Fin 256) :
    k0_pay97 (F := Ideal) (k0_pay95 u v z w g) (FloatOps.ofBits (F := Ideal) .f32 0x42FE0000#32) k0_pay96 (ix2 a 0)
      = qzero (fun k => k0_pay92 (F := Ideal) u v z w g (ix2 a k)) (fun k => k0_pay92 (F := Ideal) u v z w g (ix2 a k)) := by
  unfold k0_pay97 k0_pay95 k0_pay96 qzero
  exact zero_of _ _ _ _ a (low2_apply u v z w g a) (step2_apply u v z w g a)

/-- The code of an element of the normalised row. -/
theorem code2_apply (a : Fin 256) (n : Fin 3072) :
    k0_pay98 (F := Ideal) (k0_pay92 u v z w g) (k0_pay94 u v z w g) (k0_pay95 u v z w g) (FloatOps.ofBits (F := Ideal) .f32 0x42FE0000#32) k0_pay96 (ix2 a n)
      = qcode (fun k => k0_pay92 (F := Ideal) u v z w g (ix2 a k)) (fun k => k0_pay92 (F := Ideal) u v z w g (ix2 a k)) (k0_pay92 (F := Ideal) u v z w g (ix2 a n)) := by
  unfold k0_pay98 qcode
  exact code_of _ _ _ _ _ a n (step2_apply u v z w g a) (zero2_apply u v z w g a)

/-- Its byte. -/
theorem byte2_apply (a : Fin 256) (n : Fin 3072) :
    k0_pay99 (F := Ideal) (k0_pay92 u v z w g) (k0_pay94 u v z w g) (k0_pay95 u v z w g) (FloatOps.ofBits (F := Ideal) .f32 0x42FE0000#32) k0_pay96 (ix2 a n)
      = FloatOps.fptosi (F := Ideal) (φ := .f32) 8 (qcode (fun k => k0_pay92 (F := Ideal) u v z w g (ix2 a k)) (fun k => k0_pay92 (F := Ideal) u v z w g (ix2 a k)) (k0_pay92 (F := Ideal) u v z w g (ix2 a n))) := by
  unfold k0_pay99
  exact congrArg (FloatOps.fptosi (F := Ideal) (φ := .f32) 8) (code2_apply u v z w g a n)

/-- The centred code of an element of the normalised row. -/
theorem centred2_apply (a : Fin 256) (n : Fin 3072) :
    k0_pay100 (F := Ideal) (k0_pay92 u v z w g) (k0_pay94 u v z w g) (k0_pay95 u v z w g) (FloatOps.ofBits (F := Ideal) .f32 0x42FE0000#32) k0_pay96 (ix2 a n)
      = qcode (fun k => k0_pay92 (F := Ideal) u v z w g (ix2 a k)) (fun k => k0_pay92 (F := Ideal) u v z w g (ix2 a k)) (k0_pay92 (F := Ideal) u v z w g (ix2 a n))
        - qzero (fun k => k0_pay92 (F := Ideal) u v z w g (ix2 a k)) (fun k => k0_pay92 (F := Ideal) u v z w g (ix2 a k)) := by
  unfold k0_pay100
  exact centred_of _ _ _ _ a n (code2_apply u v z w g a n) (zero2_apply u v z w g a)

/-- The steps of the normalised rows, repeated along the lanes. -/
theorem lanes_apply (a : Fin 256) (l : Fin 128) :
    k0_pay101 (F := Ideal) (k0_pay94 u v z w g) (ix2 a l)
      = qstep (fun k => k0_pay92 (F := Ideal) u v z w g (ix2 a k)) (fun k => k0_pay92 (F := Ideal) u v z w g (ix2 a k)) := by
  have h := step2_apply u v z w g a
  generalize k0_pay94 (F := Ideal) u v z w g = s at h ⊢
  generalize qstep (fun k => k0_pay92 (F := Ideal) u v z w g (ix2 a k)) (fun k => k0_pay92 (F := Ideal) u v z w g (ix2 a k)) = t at h ⊢
  pointwise [k0_pay101]
  rw [h]

end Norm

/-- The four rows the kernel lays out for its small results. -/
theorem rows_apply (p q r s : Vec Ideal S256x1 .f32) (e : EReal) (y : Vec Ideal S256x1 .f32) (a : Fin 256) :
    k0_pay2 (F := Ideal) (k0_pay102 p q r s e y) (ix2 0 a) = p (ix2 a 0)
    ∧ k0_pay3 (F := Ideal) (k0_pay102 p q r s e y) (ix2 0 a) = FloatOps.fptosi (F := Ideal) (φ := .f32) 32 (q (ix2 a 0))
    ∧ k0_pay4 (F := Ideal) (k0_pay102 p q r s e y) (ix2 0 a) = r (ix2 a 0)
    ∧ k0_pay5 (F := Ideal) (k0_pay102 p q r s e y) (ix2 0 a) = FloatOps.fptosi (F := Ideal) (φ := .f32) 32 (k0_pay97 (F := Ideal) s e y (ix2 a 0)) := by
  generalize hz : k0_pay97 (F := Ideal) s e y = zz
  refine ⟨?_, ?_, ?_, ?_⟩
  · pointwise [k0_pay2, k0_pay102]
    rfl
  · pointwise [k0_pay3, k0_pay102]
    rfl
  · pointwise [k0_pay4, k0_pay102]
    rfl
  · pointwise [k0_pay5, k0_pay102]
    rw [hz]

/-- A quarter of the widened weight: the nibbles of the codes with their scales. -/
def wval (nib : BitVec 8 → BitVec 32) (X4 : Vec Ideal S768x1536 .i8) (X5 : Vec Ideal S24x1536 .f32) (k : Fin 768) (l : Fin 1536) : EReal :=
  (((nib (X4 (ix2 k l))).toInt : ℝ) : EReal) * X5 (ix2 ⟨k.val / 32, by omega⟩ l)

/-- A group of 32 rows of the weight, as the kernel stores it. -/
def group (pay : Vec Ideal S32x1536 .i8 → Vec Ideal S1x1536 .f32 → Vec Ideal S32x1536 .bf16) (off : Fin 24 → Fin 2 → ℕ)
    (inb : ∀ r a, off r a + S32x1536.size a ≤ S3072x3072.size a) (X4 : Vec Ideal S768x1536 .i8) (X5 : Vec Ideal S24x1536 .f32) (g : Fin 24) :
    View.Piece (Elt Ideal) S3072x3072 .bf16 :=
  ⟨Rect.unit (off ⟨23 - g.val, by omega⟩) S32x1536.size (inb ⟨23 - g.val, by omega⟩),
    pay (fun x => X4 ((Rect.unit (s := S768x1536) ![32 * (23 - g.val), 0] ![32, 1536] (by have := g.isLt; intro a; match a with | ⟨0, _⟩ => show 32 * (23 - g.val) + 32 ≤ 768; omega | ⟨1, _⟩ => show 0 + 1536 ≤ 1536; omega)).idx x))
      (fun x => X5 ((Rect.unit (s := S24x1536) ![23 - g.val, 0] ![1, 1536] (by have := g.isLt; intro a; match a with | ⟨0, _⟩ => show 23 - g.val + 1 ≤ 24; omega | ⟨1, _⟩ => show 0 + 1536 ≤ 1536; omega)).idx x))⟩

/-- The stores that make a quarter of the widened weight, last first. -/
def groups (pay : Vec Ideal S32x1536 .i8 → Vec Ideal S1x1536 .f32 → Vec Ideal S32x1536 .bf16) (off : Fin 24 → Fin 2 → ℕ)
    (inb : ∀ r a, off r a + S32x1536.size a ≤ S3072x3072.size a) (X4 : Vec Ideal S768x1536 .i8) (X5 : Vec Ideal S24x1536 .f32) :
    List (View.Piece (Elt Ideal) S3072x3072 .bf16) :=
  (List.finRange 24).map (group pay off inb X4 X5)

section Groups

variable (pay : Vec Ideal S32x1536 .i8 → Vec Ideal S1x1536 .f32 → Vec Ideal S32x1536 .bf16) (off : Fin 24 → Fin 2 → ℕ)
  (inb : ∀ r a, off r a + S32x1536.size a ≤ S3072x3072.size a) (X4 : Vec Ideal S768x1536 .i8) (X5 : Vec Ideal S24x1536 .f32)
  (nib : BitVec 8 → BitVec 32)
  (hpay : ∀ p s a l, pay p s (ix2 a l) = (((nib (p (ix2 a l))).toInt : ℝ) : EReal) * s (ix2 0 l))
  (b cl : ℕ) (hoff : ∀ r, off r = ![768 * b + 32 * r.val, cl])

include hoff in
/-- Where a stored group lies. -/
theorem group_emb (g : Fin 24) (a : Fin 32) (l : Fin 1536) :
    ((group pay off inb X4 X5 g).1.emb (ix2 a l : S32x1536.Idx) 0).val = 768 * b + 32 * (23 - g.val) + a.val
    ∧ ((group pay off inb X4 X5 g).1.emb (ix2 a l : S32x1536.Idx) 1).val = cl + l.val := by
  have e0 : ((group pay off inb X4 X5 g).1.emb (ix2 a l : S32x1536.Idx) 0).val = off ⟨23 - g.val, by omega⟩ 0 + 1 * a.val := rfl
  have e1 : ((group pay off inb X4 X5 g).1.emb (ix2 a l : S32x1536.Idx) 1).val = off ⟨23 - g.val, by omega⟩ 1 + 1 * l.val := rfl
  rw [hoff] at e0 e1
  have f0 : (![768 * b + 32 * (23 - g.val), cl] : Fin 2 → ℕ) 0 = 768 * b + 32 * (23 - g.val) := rfl
  have f1 : (![768 * b + 32 * (23 - g.val), cl] : Fin 2 → ℕ) 1 = cl := rfl
  constructor
  · rw [e0]; dsimp only; rw [f0]; omega
  · rw [e1]; dsimp only; rw [f1]; omega

include hpay hoff in
/-- Inside the quarter the scratch holds the widened weight after the stores. -/
theorem groups_in (v : View sig .tc .vmem S3072x3072 .bf16) (f : v.ty.Contents (Elt Ideal)) (y : S3072x3072.Idx)
    (k : Fin 768) (hk : (y 0).val = 768 * b + k.val) (l : Fin 1536) (hl : (y 1).val = cl + l.val) :
    v.read (Elt Ideal) (v.writes (Elt Ideal) f (groups pay off inb X4 X5)) y = wval nib X4 X5 k l := by
  have hc : ∃ p ∈ groups pay off inb X4 X5, y ∈ p.1.set := by
    refine ⟨group pay off inb X4 X5 ⟨23 - k.val / 32, by omega⟩, List.mem_map_of_mem (List.mem_finRange _), ?_⟩
    have e : y = (group pay off inb X4 X5 ⟨23 - k.val / 32, by omega⟩).1.idx (ix2 ⟨k.val % 32, by omega⟩ l : S32x1536.Idx) := by
      have h := group_emb pay off inb X4 X5 b cl hoff ⟨23 - k.val / 32, by omega⟩ ⟨k.val % 32, by omega⟩ l
      funext c
      match c with
      | ⟨0, _⟩ => exact Fin.ext ((hk.trans (show 768 * b + k.val = 768 * b + 32 * (23 - (23 - k.val / 32)) + k.val % 32 by omega)).trans h.1.symm)
      | ⟨1, _⟩ => exact Fin.ext (hl.trans h.2.symm)
    exact Eq.mpr (congrArg (· ∈ _) e) (LoadRect.idx_mem _ _)
  rw [View.read_writes_apply_eq_canon _ _ _ _ hc]
  refine (View.canon_apply_of_pieces (Val := Elt Ideal) (S := S3072x3072) (e := .bf16)
    (fun z => if h : (768 * b ≤ (z 0).val ∧ (z 0).val < 768 * b + 768) ∧ cl ≤ (z 1).val ∧ (z 1).val < cl + 1536 then wval nib X4 X5 ⟨(z 0).val - 768 * b, by omega⟩ ⟨(z 1).val - cl, by omega⟩ else 0) _ ?_ y hc).trans ?_
  · intro p hp x
    obtain ⟨g, -, rfl⟩ := List.mem_map.mp hp
    have hg := g.isLt
    obtain ⟨a, c, rfl⟩ : ∃ (a : Fin 32) (c : Fin 1536), x = ix2 a c := ⟨x 0, x 1, eq_ix2 x⟩
    refine (hpay _ _ a c).trans ?_
    obtain ⟨e0, e1⟩ := group_emb pay off inb X4 X5 b cl hoff g a c
    dsimp only
    generalize (group pay off inb X4 X5 g).1.emb (ix2 a c : S32x1536.Idx) = z at e0 e1 ⊢
    have ha := a.isLt
    have hcl := c.isLt
    rw [dif_pos (show (768 * b ≤ (z 0).val ∧ (z 0).val < 768 * b + 768) ∧ cl ≤ (z 1).val ∧ (z 1).val < cl + 1536 by omega)]
    unfold wval
    refine congrArg₂ (fun (b : BitVec 8) (s : EReal) => (((nib b).toInt : ℝ) : EReal) * s) (congrArg X4 ?_) (congrArg X5 ?_)
    · funext d
      match d with
      | ⟨0, _⟩ => exact Fin.ext (show 32 * (23 - g.val) + 1 * a.val = (z 0).val - 768 * b by omega)
      | ⟨1, _⟩ => exact Fin.ext (show 0 + 1 * c.val = (z 1).val - cl by omega)
    · funext d
      match d with
      | ⟨0, _⟩ => exact Fin.ext (show 23 - g.val + 1 * 0 = ((z 0).val - 768 * b) / 32 by omega)
      | ⟨1, _⟩ => exact Fin.ext (show 0 + 1 * c.val = (z 1).val - cl by omega)
  · dsimp only
    have hk' := k.isLt
    have hl' := l.isLt
    rw [dif_pos (show (768 * b ≤ (y 0).val ∧ (y 0).val < 768 * b + 768) ∧ cl ≤ (y 1).val ∧ (y 1).val < cl + 1536 by omega)]
    exact congrArg₂ (wval nib X4 X5) (Fin.ext (show (y 0).val - 768 * b = k.val by omega)) (Fin.ext (show (y 1).val - cl = l.val by omega))

include hoff in
/-- Outside the quarter the scratch holds what it held. -/
theorem groups_out (v : View sig .tc .vmem S3072x3072 .bf16) (f : v.ty.Contents (Elt Ideal)) (y : S3072x3072.Idx)
    (h : (y 0).val < 768 * b ∨ (y 1).val < cl ∨ cl + 1536 ≤ (y 1).val) :
    v.read (Elt Ideal) (v.writes (Elt Ideal) f (groups pay off inb X4 X5)) y = v.read (Elt Ideal) f y := by
  refine View.read_writes_apply_of_forall_not_mem _ _ _ _ ?_
  intro p hp hy
  obtain ⟨g, -, rfl⟩ := List.mem_map.mp hp
  obtain ⟨x, e⟩ := LoadRect.exists_idx_of_mem _ hy
  obtain ⟨a, c, rfl⟩ : ∃ (a : Fin 32) (c : Fin 1536), x = ix2 a c := ⟨x 0, x 1, eq_ix2 x⟩
  obtain ⟨this, this1⟩ := group_emb pay off inb X4 X5 b cl hoff g a c
  have e' : (group pay off inb X4 X5 g).1.emb (ix2 a c : S32x1536.Idx) = y := e
  rw [e'] at this this1
  have hcl := c.isLt
  omega

end Groups

end Cert.ProjIdeal.Own

end
-- ==== Proof.ProjStores.lean ====
/- The output projection: the stores its runs make, in the form the element lemmas take. -/
module

public import proofs.«01_k».proof.Proof.ProjRun
public import proofs.«01_k».proof.Proof.ProjPieces
public import Idealize.ShloMosaic.Lib.Pipeline.ValueKit
public import Idealize.ShloMosaic.Lib.IdealHost
public import Idealize.ShloMosaic.Lib.Pointwise

@[expose] public section

set_option maxRecDepth 16384

noncomputable section

namespace Cert.ProjIdeal.Own

open Cert.ProjIdeal Cert.ProjIdeal.Gen Cert.Own
open Idealize.ShloMosaic Idealize.ShloMosaic.TcCoe Idealize.ShloMosaic.Tactic
open Idealize.SL.Sem

/-- The scales of the weight's first columns. -/
def scalesL (x4 : Vec Ideal S24x3072 .f32) : Vec Ideal S24x1536 .f32 :=
  fun y => x4 ((Rect.unit (s := S24x3072) ![0, 0] S24x1536.size inb_S24x3072_S24x1536_0_0).idx y)

/-- The scales of the weight's last columns. -/
def scalesR (x4 : Vec Ideal S24x3072 .f32) : Vec Ideal S24x1536 .f32 :=
  fun y => x4 ((Rect.unit (s := S24x3072) ![0, 1536] S24x1536.size inb_S24x3072_S24x1536_0_1536).idx y)

/-- The stores that make a quarter of half the widened weight's columns, last first, with each row of scales read where it lies among all the columns. -/
def groupsW (pay : Vec Ideal S32x1536 .i8 → Vec Ideal S1x1536 .f32 → Vec Ideal S32x1536 .bf16) (off : Fin 24 → Fin 2 → ℕ)
    (inb : ∀ r a, off r a + S32x1536.size a ≤ S3072x3072.size a) (X4 : Vec Ideal S768x1536 .i8) (X5 : Vec Ideal S24x3072 .f32)
    (o : Fin 2 → ℕ) (ho : ∀ a, o a + S24x1536.size a ≤ S24x3072.size a) : List (View.Piece (Elt Ideal) S3072x3072 .bf16) :=
  (List.finRange 24).map fun g =>
    ⟨Rect.unit (off ⟨23 - g.val, by omega⟩) S32x1536.size (inb ⟨23 - g.val, by omega⟩),
      pay (fun x => X4 ((Rect.unit (s := S768x1536) ![32 * (23 - g.val), 0] ![32, 1536] (by have := g.isLt; intro a; match a with | ⟨0, _⟩ => show 32 * (23 - g.val) + 32 ≤ 768; omega | ⟨1, _⟩ => show 0 + 1536 ≤ 1536; omega)).idx x))
        (fun x => X5 (((Rect.unit (s := S24x3072) o S24x1536.size ho).withinL
          (Rect.unit (s := S24x1536) ![23 - g.val, 0] ![1, 1536] (by have := g.isLt; intro a; match a with | ⟨0, _⟩ => show 23 - g.val + 1 ≤ 24; omega | ⟨1, _⟩ => show 0 + 1536 ≤ 1536; omega)).toLoadRect (fun _ => rfl)).idx x))⟩

/-- They are the stores made from that half's scales. -/
theorem groupsW_eq (pay : Vec Ideal S32x1536 .i8 → Vec Ideal S1x1536 .f32 → Vec Ideal S32x1536 .bf16) (off : Fin 24 → Fin 2 → ℕ)
    (inb : ∀ r a, off r a + S32x1536.size a ≤ S3072x3072.size a) (X4 : Vec Ideal S768x1536 .i8) (X5 : Vec Ideal S24x3072 .f32)
    (o : Fin 2 → ℕ) (ho : ∀ a, o a + S24x1536.size a ≤ S24x3072.size a) :
    groupsW pay off inb X4 X5 o ho = groups pay off inb X4 (fun y => X5 ((Rect.unit (s := S24x3072) o S24x1536.size ho).idx y)) := by
  refine List.map_congr_left fun g _ => ?_
  unfold group
  refine congrArg (fun z : Vec Ideal S1x1536 .f32 => (⟨Rect.unit (off ⟨23 - g.val, by omega⟩) S32x1536.size (inb ⟨23 - g.val, by omega⟩), pay (fun x => X4 ((Rect.unit (s := S768x1536) ![32 * (23 - g.val), 0] ![32, 1536] (by have := g.isLt; intro a; match a with | ⟨0, _⟩ => show 32 * (23 - g.val) + 32 ≤ 768; omega | ⟨1, _⟩ => show 0 + 1536 ≤ 1536; omega)).idx x)) z⟩ : View.Piece (Elt Ideal) S3072x3072 .bf16)) (funext fun x => ?_)
  exact congrArg X5 (Rect.idx_withinL (Rect.unit (s := S24x3072) o S24x1536.size ho)
    (Rect.unit (s := S24x1536) ![23 - g.val, 0] ![1, 1536] (by have := g.isLt; intro a; match a with | ⟨0, _⟩ => show 23 - g.val + 1 ≤ 24; omega | ⟨1, _⟩ => show 0 + 1536 ≤ 1536; omega)).toLoadRect (fun _ => rfl) x)

/-- The stores of a quarter of the widened weight: the high nibbles' on top of the low nibbles'. -/
def widened (i : grid0.Coords) (hc0 : cond0_0 i) (x3 : Vec Ideal S768x1536 .i8) (x4 : Vec Ideal S24x3072 .f32) : List (View.Piece (Elt Ideal) S3072x3072 .bf16) :=
  groups (k0_pay1 (F := Ideal)) (fun r => k0_off2 i (BitVec.ofNat 32 (32 * r.val))) (k0_off2_inb i hc0) x3 (scalesR x4)
    ++ groups (k0_pay6 (F := Ideal)) (fun r => k0_off1 i (BitVec.ofNat 32 (32 * r.val))) (k0_off1_inb i hc0) x3 (scalesL x4)

/-- The stores of a step that widens. -/
theorem stores_A (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : cond0_0 i) (hc1 : ¬cond0_1 i)
    (x0 : Vec Ideal S256x3072 .f32) (x1 : Vec Ideal S256x3072 .bf16) (x2 : Vec Ideal S1x3072 .f32) (x3 : Vec Ideal S768x1536 .i8) (x4 : Vec Ideal S24x3072 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).1 = widened i hc0 x3 x4 := by
  have e : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).1
      = groupsW (k0_pay1 (F := Ideal)) (fun r => k0_off2 i (BitVec.ofNat 32 (32 * r.val))) (k0_off2_inb i hc0) (arg4.view.read (Elt Ideal) (harg4.unread x3)) (arg5.view.read (Elt Ideal) (harg5.unread x4)) ![0, 1536] inb_S24x3072_S24x1536_0_1536
        ++ groupsW (k0_pay6 (F := Ideal)) (fun r => k0_off1 i (BitVec.ofNat 32 (32 * r.val))) (k0_off1_inb i hc0) (arg4.view.read (Elt Ideal) (harg4.unread x3)) (arg5.view.read (Elt Ideal) (harg5.unread x4)) ![0, 0] inb_S24x3072_S24x1536_0_0 := by
    sl_kernel_rfl
  rw [e, harg4.read_unread, harg5.read_unread, groupsW_eq, groupsW_eq]
  rfl

end Cert.ProjIdeal.Own

end
-- ==== Proof.ProjRefValue.lean ====
/- The output projection's reference, element by element. -/
module

public import proofs.«01_k».proof.Proof.Gen.ProjRefIdeal.Read
public import proofs.«01_k».proof.Proof.Nibble
public import proofs.«01_k».proof.Proof.ProjRow
public import Idealize.ShloMosaic.Lib.Pointwise

@[expose] public section

set_option maxRecDepth 16384

noncomputable section

namespace Cert.ProjRefIdeal.Own

open Cert.ProjRefIdeal Cert.ProjRefIdeal.Gen Cert.ProjRefIdeal.Read Cert.Own
open Idealize.ShloMosaic Idealize.ShloMosaic.TcCoe Idealize.ShloMosaic.Tactic
open Idealize.SL.Sem

/-- The least of a row, by the host. -/
theorem host_min (v : FVec Ideal S2048x3072 .f32) (i : Fin 2048) :
    Host.reduce FloatOps.minimumf v (constant (F := Ideal) S_ .f32 0x7F800000#32) reducesTo_S2048x3072_S2048_d1 h_S_ (ix1 i : S2048.Idx)
      = Finset.fold min (Ideal.ofBits .f32 2139095040#32) (fun k => v (ix2 i k)) Finset.univ :=
  (Host.reduce_eq_fold (FloatOps.minimumf (F := Ideal) (φ := .f32)) v _ _ _ _).trans (Shape.ReducesTo.fold_fiber_r2_a1 reducesTo_S2048x3072_S2048_d1 (ix1 i) _ _ v)

/-- The greatest of a row, by the host. -/
theorem host_max (v : FVec Ideal S2048x3072 .f32) (i : Fin 2048) :
    Host.reduce FloatOps.maximumf v (constant (F := Ideal) S_ .f32 0xFF800000#32) reducesTo_S2048x3072_S2048_d1 h_S_ (ix1 i : S2048.Idx)
      = Finset.fold max (Ideal.ofBits .f32 4286578688#32) (fun k => v (ix2 i k)) Finset.univ :=
  (Host.reduce_eq_fold (FloatOps.maximumf (F := Ideal) (φ := .f32)) v _ _ _ _).trans (Shape.ReducesTo.fold_fiber_r2_a1 reducesTo_S2048x3072_S2048_d1 (ix1 i) _ _ v)

/-- The sum of a row's squares, by the host. -/
theorem host_square (v : FVec Ideal S2048x3072 .f32) (i : Fin 2048) :
    Host.reduceAdd (mulf v v) (constant (F := Ideal) S_ .f32 0x00000000#32) reducesTo_S2048x3072_S2048_d1 h_S_ (ix1 i : S2048.Idx) = ∑ k : Fin 3072, v (ix2 i k) * v (ix2 i k) := by
  refine ((Host.reduceAdd_apply (mulf v v) _ _ _ _).trans (Ideal.hostReduceAdd_r2_a1 reducesTo_S2048x3072_S2048_d1 (mulf v v) _ (ix1 i))).trans ?_
  rw [show constant (F := Ideal) S_ .f32 0x00000000#32 (Shape.Idx.first h_S_) = (0 : EReal) from Ideal.ofBits_zero_f32, zero_add]
  rfl

/-- The lower end of a row from its least value. -/
theorem low_of (p : FVec Ideal S2048 .f32) (M : EReal) (i : Fin 2048) (hp : p (ix1 i) = M) :
    minimumf p (broadcastInDim S2048 ![] bcast_S_S2048 (constant (F := Ideal) S_ .f32 0x00000000#32)) (ix1 i) = min M 0 := by
  pointwise []
  rw [hp]

/-- The step of a row from its greatest value and its lower end. -/
theorem step_of (q p : FVec Ideal S2048 .f32) (M L : EReal) (i : Fin 2048) (hq : q (ix1 i) = M) (hp : p (ix1 i) = L) :
    select (cmpf .oeq (subf (maximumf q (broadcastInDim S2048 ![] bcast_S_S2048 (constant (F := Ideal) S_ .f32 0x00000000#32))) p) (broadcastInDim S2048 ![] bcast_S_S2048 (constant (F := Ideal) S_ .f32 0x00000000#32))) (broadcastInDim S2048 ![] bcast_S_S2048 (id (constant (F := Ideal) S_ .f32 0x3F800000#32)))
      (Host.divf (subf (maximumf q (broadcastInDim S2048 ![] bcast_S_S2048 (constant (F := Ideal) S_ .f32 0x00000000#32))) p) (broadcastInDim S2048 ![] bcast_S_S2048 (constant (F := Ideal) S_ .f32 0x437F0000#32))) (ix1 i)
      = if max M 0 - L = 0 then 1 else Ideal.div (max M 0 - L) (Ideal.ofBits .f32 1132396544#32) := by
  pointwise []
  rw [show id (constant (F := Ideal) S_ .f32 1065353216#32) ix0 = (1 : EReal) from Ideal.ofBits_one_f32, hq, hp]

/-- The zero point of a row from its lower end and its step. -/
theorem zero_of (p s : FVec Ideal S2048 .f32) (L S : EReal) (i : Fin 2048) (hp : p (ix1 i) = L) (hs : s (ix1 i) = S) :
    minimumf (broadcastInDim S2048 ![] bcast_S_S2048 (id (constant (F := Ideal) S_ .f32 0x42FE0000#32))) (maximumf (broadcastInDim S2048 ![] bcast_S_S2048 (id (constant (F := Ideal) S_ .f32 0xC3000000#32))) (subf (broadcastInDim S2048 ![] bcast_S_S2048 (constant (F := Ideal) S_ .f32 0xC3000000#32)) (Host.roundeven (Host.divf p s)))) (ix1 i)
      = qclip (Ideal.ofBits .f32 3271557120#32 - Ideal.liftRound Ideal.roundHalfEven (Ideal.div L S)) := by
  unfold qclip
  pointwise []
  rw [hp, hs]
  rfl

/-- The code of a value from its row's step and zero point. -/
theorem code_of (v : FVec Ideal S2048x3072 .f32) (s z : FVec Ideal S2048 .f32) (S Z : EReal) (i : Fin 2048) (k : Fin 3072)
    (hs : s (ix1 i) = S) (hz : z (ix1 i) = Z) :
    minimumf (broadcastInDim S2048x3072 ![] bcast_S_S2048x3072 (id (constant (F := Ideal) S_ .f32 0x42FE0000#32))) (maximumf (broadcastInDim S2048x3072 ![] bcast_S_S2048x3072 (id (constant (F := Ideal) S_ .f32 0xC3000000#32)))
        (addf (Host.roundeven (Host.divf v (broadcastInDim S2048x3072 ![0, 1] bcast_S2048x1_S2048x3072_0_1 (broadcastInDim S2048x1 ![0] bcast_S2048_S2048x1_0 s)))) (broadcastInDim S2048x3072 ![0, 1] bcast_S2048x1_S2048x3072_0_1 (broadcastInDim S2048x1 ![0] bcast_S2048_S2048x1_0 z)))) (ix2 i k)
      = qclip (Ideal.liftRound Ideal.roundHalfEven (Ideal.div (v (ix2 i k)) S) + Z) := by
  unfold qclip
  pointwise []
  rw [hs, hz]
  rfl

/-- The byte of a code. -/
theorem byte_of (c : FVec Ideal S2048x3072 .f32) (lo hi : Fin 3072 → EReal) (v : EReal) (i : Fin 2048) (k : Fin 3072) (hc : c (ix2 i k) = qcode lo hi v) :
    trunci 8 (fptosi 32 c) natLt_8_32 (ix2 i k) = FloatOps.fptosi (F := Ideal) (φ := .f32) 8 (qcode lo hi v) := by
  pointwise []
  rw [hc]
  exact qcode_byte _ _ _

/-- The centred code of a value. -/
theorem centred_of (c : FVec Ideal S2048x3072 .f32) (z : FVec Ideal S2048 .f32) (lo hi : Fin 3072 → EReal) (v : EReal) (i : Fin 2048) (k : Fin 3072)
    (hc : c (ix2 i k) = qcode lo hi v) (hz : z (ix1 i) = qzero lo hi) :
    truncf .bf16 (sitofp (F := Ideal) .f32 (subi (extsi 32 (trunci 8 (fptosi 32 c) natLt_8_32) natLt_8_32) (broadcastInDim S2048x3072 ![0, 1] bcast_S2048x1_S2048x3072_0_1 (broadcastInDim S2048x1 ![0] bcast_S2048_S2048x1_0 (fptosi 32 z))))) bitsLt_bf16_f32 (ix2 i k)
      = qcode lo hi v - qzero lo hi := by
  pointwise []
  rw [hc, hz]
  exact qcode_centred _ _ _

/-- A row of real numbers made of a column. -/
theorem row_of (p : FVec Ideal S2048 .f32) (i : Fin 2048) : broadcastInDim S1x2048 ![1] bcast_S2048_S1x2048_1 p (ix2 0 i) = p (ix1 i) := by
  pointwise []

/-- A row of integers made of a column. -/
theorem int_row_of (p : FVec Ideal S2048 .f32) (i : Fin 2048) :
    broadcastInDim S1x2048 ![1] bcast_S2048_S1x2048_1 (fptosi 32 p) (ix2 0 i) = FloatOps.fptosi (F := Ideal) (φ := .f32) 32 (p (ix1 i)) := by
  pointwise []

/-- A column repeated along the lanes. -/
theorem lanes_of (p : FVec Ideal S2048 .f32) (i : Fin 2048) (l : Fin 128) :
    broadcastInDim S2048x128 ![0, 1] bcast_S2048x1_S2048x128_0_1 (broadcastInDim S2048x1 ![0] bcast_S2048_S2048x1_0 p) (ix2 i l) = p (ix1 i) := by
  pointwise []

/-- The low nibble of a code times its scale. -/
theorem low_apply (x3 : Vec Ideal S3072x1536 .i8) (x4 : Vec Ideal S96x3072 .f32) (k : Fin 3072) (n : Fin 1536) :
    val_main_v48 (F := Ideal) x3 x4 (ix2 k n)
      = (((lowNibble (x3 (ix2 k n))).toInt : ℝ) : EReal) * x4 (ix2 ⟨k.val / 32, by omega⟩ ⟨n.val, by omega⟩) := by
  pointwise [val_main_v48, val_main_v47, val_main_v46, val_main_v45, val_main_v44, val_main_v43, val_main_v42, val_main_v41, val_main_v40, val_main_v39, val_main_v38, val_main_v37, val_main_v36, val_main_v35, val_main_v34, val_main_c, val_main_c_11, val_main_c_12]
  rfl

/-- The high nibble of a code times its scale. -/
theorem high_apply (x3 : Vec Ideal S3072x1536 .i8) (x4 : Vec Ideal S96x3072 .f32) (k : Fin 3072) (n : Fin 1536) :
    val_main_v62 (F := Ideal) x3 x4 (ix2 k n)
      = (((highNibble (x3 (ix2 k n))).toInt : ℝ) : EReal) * x4 (ix2 ⟨k.val / 32, by omega⟩ ⟨1536 + n.val, by omega⟩) := by
  pointwise [val_main_v62, val_main_v61, val_main_v60, val_main_v59, val_main_v58, val_main_v57, val_main_v56, val_main_v55, val_main_v54, val_main_v53, val_main_v52, val_main_v51, val_main_v50, val_main_v49, val_main_v34, val_main_c_13, val_main_c_14, val_main_c_15]
  rfl

/-- The lower end of a row, in the reference. -/
theorem ref_low (x0 : Vec Ideal S2048x3072 .f32) (i : Fin 2048) :
    val_main_v2 (F := Ideal) x0 (ix1 i) = qlow (fun x => x0 (ix2 i x)) := by
  unfold val_main_v2 val_main_v1 val_main_v0 val_main_cst val_main_cst_0 qlow
  exact low_of _ _ i (host_min x0 i)

/-- The reference's step of a row. -/
theorem ref_step (x0 : Vec Ideal S2048x3072 .f32) (i : Fin 2048) :
    val_main_v11 (F := Ideal) x0 (ix1 i) = qstep (fun x => x0 (ix2 i x)) (fun x => x0 (ix2 i x)) := by
  unfold val_main_v11 val_main_v10 val_main_v9 val_main_v8 val_main_v7 val_main_v6 val_main_v5 val_main_v4 val_main_v3 val_main_call0_v1 val_main_call0_v0 val_main_cst_1 val_main_cst_2 val_main_cst_3 val_main_cst_4 val_main_cst_5 qstep qhigh
  exact step_of _ _ _ _ i (host_max x0 i) (ref_low x0 i)

/-- The reference's zero point of a row. -/
theorem ref_zero (x0 : Vec Ideal S2048x3072 .f32) (i : Fin 2048) :
    val_main_v16 (F := Ideal) x0 (ix1 i) = qzero (fun x => x0 (ix2 i x)) (fun x => x0 (ix2 i x)) := by
  unfold val_main_v16 val_main_call2_v4 val_main_call2_v3 val_main_call2_v2 val_main_call2_v1 val_main_call2_v0 val_main_v15 val_main_v14 val_main_v13 val_main_v12 val_main_cst_6 val_main_cst_7 val_main_cst_8 qzero
  exact zero_of _ _ _ _ i (ref_low x0 i) (ref_step x0 i)

/-- The reference's code of a value. -/
theorem ref_code (x0 : Vec Ideal S2048x3072 .f32) (i : Fin 2048) (k : Fin 3072) :
    val_main_v24 (F := Ideal) x0 (ix2 i k) = qcode (fun x => x0 (ix2 i x)) (fun x => x0 (ix2 i x)) (x0 (ix2 i k)) := by
  unfold val_main_v24 val_main_call4_v4 val_main_call4_v3 val_main_call4_v2 val_main_call4_v1 val_main_call4_v0 val_main_v23 val_main_v22 val_main_v21 val_main_v20 val_main_v19 val_main_v18 val_main_v17 val_main_cst_9 val_main_cst_10 qcode
  exact code_of _ _ _ _ _ i k (ref_step x0 i) (ref_zero x0 i)

/-- The reference's byte of a code. -/
theorem ref_byte (x0 : Vec Ideal S2048x3072 .f32) (i : Fin 2048) (k : Fin 3072) :
    val_main_v26 (F := Ideal) x0 (ix2 i k) = FloatOps.fptosi (F := Ideal) (φ := .f32) 8 (qcode (fun x => x0 (ix2 i x)) (fun x => x0 (ix2 i x)) (x0 (ix2 i k))) := by
  unfold val_main_v26 val_main_v25
  exact byte_of _ _ _ _ i k (ref_code x0 i k)

/-- The reference's centred code. -/
theorem ref_centred (x0 : Vec Ideal S2048x3072 .f32) (i : Fin 2048) (k : Fin 3072) :
    val_main_v33 (F := Ideal) x0 (ix2 i k) = qcode (fun x => x0 (ix2 i x)) (fun x => x0 (ix2 i x)) (x0 (ix2 i k)) - qzero (fun x => x0 (ix2 i x)) (fun x => x0 (ix2 i x)) := by
  unfold val_main_v33 val_main_v32 val_main_v31 val_main_v30 val_main_v29 val_main_v28 val_main_v26 val_main_v25 val_main_v27
  exact centred_of _ _ _ _ _ i k (ref_code x0 i k) (ref_zero x0 i)

/-- The reference's row of steps. -/
theorem ref_step_row (x0 : Vec Ideal S2048x3072 .f32) (i : Fin 2048) :
    val_main_v117 (F := Ideal) x0 (ix2 0 i) = qstep (fun x => x0 (ix2 i x)) (fun x => x0 (ix2 i x)) := by
  unfold val_main_v117
  exact (row_of _ i).trans (ref_step x0 i)

/-- The reference's row of zero points. -/
theorem ref_zero_row (x0 : Vec Ideal S2048x3072 .f32) (i : Fin 2048) :
    val_main_v118 (F := Ideal) x0 (ix2 0 i) = FloatOps.fptosi (F := Ideal) (φ := .f32) 32 (qzero (fun x => x0 (ix2 i x)) (fun x => x0 (ix2 i x))) := by
  unfold val_main_v118 val_main_v27
  exact (int_row_of _ i).trans (congrArg (FloatOps.fptosi (F := Ideal) (φ := .f32) 32) (ref_zero x0 i))

/-- The widened weight: the low nibbles make the left half of its columns, the high nibbles the right. -/
def wref (x3 : Vec Ideal S3072x1536 .i8) (x4 : Vec Ideal S96x3072 .f32) (k n : Fin 3072) : EReal :=
  if h : n.val < 1536 then (((lowNibble (x3 (ix2 k ⟨n.val, h⟩))).toInt : ℝ) : EReal) * x4 (ix2 ⟨k.val / 32, by omega⟩ n)
  else (((highNibble (x3 (ix2 k ⟨n.val - 1536, by omega⟩))).toInt : ℝ) : EReal) * x4 (ix2 ⟨k.val / 32, by omega⟩ n)

/-- The reference's residual with the projection added. -/
theorem ref_hidden (x0 : Vec Ideal S2048x3072 .f32) (x1 : Vec Ideal S2048x3072 .bf16) (x3 : Vec Ideal S3072x1536 .i8) (x4 : Vec Ideal S96x3072 .f32) (i : Fin 2048) (n : Fin 3072) :
    val_main_v73 (F := Ideal) x0 x1 x3 x4 (ix2 i n) = hrow (fun k => x0 (ix2 i k)) (fun k => x1 (ix2 i k)) (wref x3 x4) n := by
  have hc := fun k => ref_centred x0 i k
  have hs := ref_step x0 i
  have hl := fun k l => low_apply x3 x4 k l
  have hh := fun k l => high_apply x3 x4 k l
  unfold hrow
  pointwise [val_main_v73, val_main_v72, val_main_v71, val_main_v70, val_main_v69, val_main_v68, val_main_v67, val_main_v66, val_main_v65, val_main_v64, val_main_v63]
  by_cases h : n.val < 1536
  · rw [dif_pos h, hs]
    simp only [hc, hl, wref, dif_pos h]
  · rw [dif_neg h, hs]
    have e : (⟨1536 + (n.val - 1536), by omega⟩ : Fin 3072) = n := Fin.ext (by show 1536 + (n.val - 1536) = n.val; omega)
    simp only [hc, hh, wref, dif_neg h, e]

/-- The normalised row from the sum of the squares. -/
theorem norm_of (h : FVec Ideal S2048x3072 .f32) (p : FVec Ideal S2048 .f32) (x2 : FVec Ideal S3072 .f32) (M : EReal) (i : Fin 2048) (n : Fin 3072) (hp : p (ix1 i) = M) :
    mulf (Host.divf h (broadcastInDim S2048x3072 ![0, 1] bcast_S2048x1_S2048x3072_0_1 (Host.sqrt (addf (Host.divf (broadcastInDim S2048x1 ![0] bcast_S2048_S2048x1_0 p)
        (broadcastInDim S2048x1 ![] bcast_S_S2048x1 (constant (F := Ideal) S_ .f32 0x45400000#32))) (broadcastInDim S2048x1 ![] bcast_S_S2048x1 (constant (F := Ideal) S_ .f32 0x3727C5AC#32))))))
      (broadcastInDim S2048x3072 ![0, 1] bcast_S1x3072_S2048x3072_0_1 (broadcastInDim S1x3072 ![1] bcast_S3072_S1x3072_1 x2)) (ix2 i n)
      = Ideal.div (h (ix2 i n)) (Ideal.sqrt (Ideal.div M (Ideal.ofBits .f32 1161822208#32) + Ideal.ofBits .f32 925353388#32)) * x2 (ix1 n) := by
  pointwise []
  rw [hp]

/-- The reference's normalised row. -/
theorem ref_norm (x0 : Vec Ideal S2048x3072 .f32) (x1 : Vec Ideal S2048x3072 .bf16) (x2 : Vec Ideal S3072 .f32) (x3 : Vec Ideal S3072x1536 .i8) (x4 : Vec Ideal S96x3072 .f32) (i : Fin 2048) (n : Fin 3072) :
    val_main_v86 (F := Ideal) x0 x1 x2 x3 x4 (ix2 i n) = nrow (fun k => val_main_v73 (F := Ideal) x0 x1 x3 x4 (ix2 i k)) (fun k => x2 (ix1 k)) n := by
  unfold val_main_v86 val_main_v85 val_main_v84 val_main_v83 val_main_v82 val_main_v81 val_main_v80 val_main_v79 val_main_v78 val_main_v77 val_main_v76 val_main_v75 val_main_v74 val_main_cst_16 val_main_cst_17 val_main_cst_18 nrow
  exact norm_of _ _ _ _ i n (host_square (val_main_v73 (F := Ideal) x0 x1 x3 x4) i)

/-- The lower end of a row, in the reference, second quantiser. -/
theorem ref2_low (x0 : Vec Ideal S2048x3072 .f32) (x1 : Vec Ideal S2048x3072 .bf16) (x2 : Vec Ideal S3072 .f32) (x3 : Vec Ideal S3072x1536 .i8) (x4 : Vec Ideal S96x3072 .f32) (i : Fin 2048) :
    val_main_v89 (F := Ideal) x0 x1 x2 x3 x4 (ix1 i) = qlow (fun x => val_main_v86 (F := Ideal) x0 x1 x2 x3 x4 (ix2 i x)) := by
  unfold val_main_v89 val_main_v88 val_main_v87 val_main_cst_19 val_main_cst_20 qlow
  exact low_of _ _ i (host_min (val_main_v86 (F := Ideal) x0 x1 x2 x3 x4) i)

/-- The reference's step of a row, second quantiser. -/
theorem ref2_step (x0 : Vec Ideal S2048x3072 .f32) (x1 : Vec Ideal S2048x3072 .bf16) (x2 : Vec Ideal S3072 .f32) (x3 : Vec Ideal S3072x1536 .i8) (x4 : Vec Ideal S96x3072 .f32) (i : Fin 2048) :
    val_main_v98 (F := Ideal) x0 x1 x2 x3 x4 (ix1 i) = qstep (fun x => val_main_v86 (F := Ideal) x0 x1 x2 x3 x4 (ix2 i x)) (fun x => val_main_v86 (F := Ideal) x0 x1 x2 x3 x4 (ix2 i x)) := by
  unfold val_main_v98 val_main_v97 val_main_v96 val_main_v95 val_main_v94 val_main_v93 val_main_v92 val_main_v91 val_main_v90 val_main_call7_v1 val_main_call7_v0 val_main_cst_21 val_main_cst_22 val_main_cst_23 val_main_cst_24 val_main_cst_25 qstep qhigh
  exact step_of _ _ _ _ i (host_max (val_main_v86 (F := Ideal) x0 x1 x2 x3 x4) i) (ref2_low x0 x1 x2 x3 x4 i)

/-- The reference's zero point of a row, second quantiser. -/
theorem ref2_zero (x0 : Vec Ideal S2048x3072 .f32) (x1 : Vec Ideal S2048x3072 .bf16) (x2 : Vec Ideal S3072 .f32) (x3 : Vec Ideal S3072x1536 .i8) (x4 : Vec Ideal S96x3072 .f32) (i : Fin 2048) :
    val_main_v103 (F := Ideal) x0 x1 x2 x3 x4 (ix1 i) = qzero (fun x => val_main_v86 (F := Ideal) x0 x1 x2 x3 x4 (ix2 i x)) (fun x => val_main_v86 (F := Ideal) x0 x1 x2 x3 x4 (ix2 i x)) := by
  unfold val_main_v103 val_main_call9_v4 val_main_call9_v3 val_main_call9_v2 val_main_call9_v1 val_main_call9_v0 val_main_v102 val_main_v101 val_main_v100 val_main_v99 val_main_cst_26 val_main_cst_27 val_main_cst_28 qzero
  exact zero_of _ _ _ _ i (ref2_low x0 x1 x2 x3 x4 i) (ref2_step x0 x1 x2 x3 x4 i)

/-- The reference's code of a value, second quantiser. -/
theorem ref2_code (x0 : Vec Ideal S2048x3072 .f32) (x1 : Vec Ideal S2048x3072 .bf16) (x2 : Vec Ideal S3072 .f32) (x3 : Vec Ideal S3072x1536 .i8) (x4 : Vec Ideal S96x3072 .f32) (i : Fin 2048) (k : Fin 3072) :
    val_main_v111 (F := Ideal) x0 x1 x2 x3 x4 (ix2 i k) = qcode (fun x => val_main_v86 (F := Ideal) x0 x1 x2 x3 x4 (ix2 i x)) (fun x => val_main_v86 (F := Ideal) x0 x1 x2 x3 x4 (ix2 i x)) (val_main_v86 (F := Ideal) x0 x1 x2 x3 x4 (ix2 i k)) := by
  unfold val_main_v111 val_main_call11_v4 val_main_call11_v3 val_main_call11_v2 val_main_call11_v1 val_main_call11_v0 val_main_v110 val_main_v109 val_main_v108 val_main_v107 val_main_v106 val_main_v105 val_main_v104 val_main_cst_29 val_main_cst_30 qcode
  exact code_of _ _ _ _ _ i k (ref2_step x0 x1 x2 x3 x4 i) (ref2_zero x0 x1 x2 x3 x4 i)

/-- The reference's byte of a code, second quantiser. -/
theorem ref2_byte (x0 : Vec Ideal S2048x3072 .f32) (x1 : Vec Ideal S2048x3072 .bf16) (x2 : Vec Ideal S3072 .f32) (x3 : Vec Ideal S3072x1536 .i8) (x4 : Vec Ideal S96x3072 .f32) (i : Fin 2048) (k : Fin 3072) :
    val_main_v113 (F := Ideal) x0 x1 x2 x3 x4 (ix2 i k) = FloatOps.fptosi (F := Ideal) (φ := .f32) 8 (qcode (fun x => val_main_v86 (F := Ideal) x0 x1 x2 x3 x4 (ix2 i x)) (fun x => val_main_v86 (F := Ideal) x0 x1 x2 x3 x4 (ix2 i x)) (val_main_v86 (F := Ideal) x0 x1 x2 x3 x4 (ix2 i k))) := by
  unfold val_main_v113 val_main_v112
  exact byte_of _ _ _ _ i k (ref2_code x0 x1 x2 x3 x4 i k)

/-- The reference's centred code, second quantiser. -/
theorem ref2_centred (x0 : Vec Ideal S2048x3072 .f32) (x1 : Vec Ideal S2048x3072 .bf16) (x2 : Vec Ideal S3072 .f32) (x3 : Vec Ideal S3072x1536 .i8) (x4 : Vec Ideal S96x3072 .f32) (i : Fin 2048) (k : Fin 3072) :
    val_main_v124 (F := Ideal) x0 x1 x2 x3 x4 (ix2 i k) = qcode (fun x => val_main_v86 (F := Ideal) x0 x1 x2 x3 x4 (ix2 i x)) (fun x => val_main_v86 (F := Ideal) x0 x1 x2 x3 x4 (ix2 i x)) (val_main_v86 (F := Ideal) x0 x1 x2 x3 x4 (ix2 i k)) - qzero (fun x => val_main_v86 (F := Ideal) x0 x1 x2 x3 x4 (ix2 i x)) (fun x => val_main_v86 (F := Ideal) x0 x1 x2 x3 x4 (ix2 i x)) := by
  unfold val_main_v124 val_main_v123 val_main_v122 val_main_v121 val_main_v120 val_main_v119 val_main_v113 val_main_v112 val_main_v114
  exact centred_of _ _ _ _ _ i k (ref2_code x0 x1 x2 x3 x4 i k) (ref2_zero x0 x1 x2 x3 x4 i)

/-- The reference's row of steps, second quantiser. -/
theorem ref2_step_row (x0 : Vec Ideal S2048x3072 .f32) (x1 : Vec Ideal S2048x3072 .bf16) (x2 : Vec Ideal S3072 .f32) (x3 : Vec Ideal S3072x1536 .i8) (x4 : Vec Ideal S96x3072 .f32) (i : Fin 2048) :
    val_main_v125 (F := Ideal) x0 x1 x2 x3 x4 (ix2 0 i) = qstep (fun x => val_main_v86 (F := Ideal) x0 x1 x2 x3 x4 (ix2 i x)) (fun x => val_main_v86 (F := Ideal) x0 x1 x2 x3 x4 (ix2 i x)) := by
  unfold val_main_v125
  exact (row_of _ i).trans (ref2_step x0 x1 x2 x3 x4 i)

/-- The reference's row of zero points, second quantiser. -/
theorem ref2_zero_row (x0 : Vec Ideal S2048x3072 .f32) (x1 : Vec Ideal S2048x3072 .bf16) (x2 : Vec Ideal S3072 .f32) (x3 : Vec Ideal S3072x1536 .i8) (x4 : Vec Ideal S96x3072 .f32) (i : Fin 2048) :
    val_main_v126 (F := Ideal) x0 x1 x2 x3 x4 (ix2 0 i) = FloatOps.fptosi (F := Ideal) (φ := .f32) 32 (qzero (fun x => val_main_v86 (F := Ideal) x0 x1 x2 x3 x4 (ix2 i x)) (fun x => val_main_v86 (F := Ideal) x0 x1 x2 x3 x4 (ix2 i x))) := by
  unfold val_main_v126 val_main_v114
  exact (int_row_of _ i).trans (congrArg (FloatOps.fptosi (F := Ideal) (φ := .f32) 32) (ref2_zero x0 x1 x2 x3 x4 i))

/-- The reference's steps of the normalised rows, repeated along the lanes. -/
theorem ref2_lanes (x0 : Vec Ideal S2048x3072 .f32) (x1 : Vec Ideal S2048x3072 .bf16) (x2 : Vec Ideal S3072 .f32) (x3 : Vec Ideal S3072x1536 .i8) (x4 : Vec Ideal S96x3072 .f32) (i : Fin 2048) (l : Fin 128) :
    val_main_v116 (F := Ideal) x0 x1 x2 x3 x4 (ix2 i l) = qstep (fun x => val_main_v86 (F := Ideal) x0 x1 x2 x3 x4 (ix2 i x)) (fun x => val_main_v86 (F := Ideal) x0 x1 x2 x3 x4 (ix2 i x)) := by
  unfold val_main_v116 val_main_v115
  exact (lanes_of _ i l).trans (ref2_step x0 x1 x2 x3 x4 i)

end Cert.ProjRefIdeal.Own

end
-- ==== Proof.ProjSteps.lean ====
/- The output projection: what each grid step reads of the arrays, and what a multiplying step leaves. -/
module

public import proofs.«01_k».proof.Proof.ProjPieces
public import proofs.«01_k».proof.Proof.ProjRefValue
public import proofs.«01_k».proof.Proof.Gen.ProjIdeal.Frame
public import Idealize.ShloMosaic.Lib.Pipeline.ValueKit

@[expose] public section

set_option maxRecDepth 16384

noncomputable section

namespace Cert.ProjIdeal.Own

open Cert.ProjIdeal Cert.ProjIdeal.Gen Cert.Own
open Idealize.ShloMosaic Idealize.ShloMosaic.TcCoe Idealize.ShloMosaic.Tactic
open Idealize.SL.Sem
open Cert.ProjRefIdeal.Own (wref)

variable (m : (ℓ : Loc nD τ sig) → Buf (Elt Ideal) ℓ)

/-- The bound on the grid's points. -/
theorem point_lt (t : Fin cfg0.N) : t.val < 12 := t.isLt

/-- Where each input's block sits at each grid step. -/
theorem idx : ∀ t : Fin cfg0.N, win0_0.index t = ![t.val - 4, 0] ∧ win0_1.index t = ![t.val - 4, 0] ∧ win0_2.index t = ![0, 0]
    ∧ win0_3.index t = ![min t.val 3, 0] ∧ win0_4.index t = ![min t.val 3, 0] :=
  (by decide +kernel : ∀ t : Fin grid0.N, _)

/-- Where each result's block sits at each grid step. -/
theorem idx' : ∀ t : Fin cfg0.N, win0_5.index t = ![t.val - 4, 0] ∧ win0_6.index t = ![t.val - 4, 0] ∧ win0_7.index t = ![0, t.val - 4] ∧ win0_8.index t = ![0, t.val - 4]
    ∧ win0_9.index t = ![t.val - 4, 0] ∧ win0_10.index t = ![t.val - 4, 0] ∧ win0_11.index t = ![0, t.val - 4] ∧ win0_12.index t = ![0, t.val - 4] ∧ win0_13.index t = ![t.val - 4, 0] :=
  (by decide +kernel : ∀ t : Fin grid0.N, _)

/-- The grid coordinate of a step. -/
theorem coord : ∀ t : Fin cfg0.N, (grid0.coords t 0).val = t.val :=
  (by decide +kernel : ∀ t : Fin grid0.N, _)

/-- The gain as the host lays it out for the kernel: a row. -/
theorem V_gain (c : Dev nD) (k : Fin 3072) : V m c main_v0 (ix2 0 k) = m ((c : Thread nD τ).loc main_arg2) (ix1 k) := by
  have e : V m c main_v0 = shapeCast S1x3072 (m ((c : Thread nD τ).loc main_arg2)) shapeCasts_S3072_S1x3072 := by
    dsimp only [V, hostOps0]
    after_results_simp <;> rfl
  rw [e]
  pointwise []

/-- The row of the arrays that a row of a block is. -/
def row (t : Fin cfg0.N) (a : Fin 256) : Fin 2048 := ⟨(t.val - 4) * 256 + a.val, by have := point_lt t; omega⟩

/-- The staged block of the attention's output is the part of the argument array it names. -/
theorem blk0 (c : Dev nD) (t : Fin cfg0.N) (a : Fin 256) (k : Fin 3072) :
    iblk m c 0 t (ix2 a k : S256x3072.Idx) = m ((c : Thread nD τ).loc main_arg0) (ix2 (row t a) k : S2048x3072.Idx) := by
  have ht := point_lt t
  unfold row
  blk_ext [iblk, V, idx t]

/-- The staged block of the residual is the part of the argument array it names. -/
theorem blk1 (c : Dev nD) (t : Fin cfg0.N) (a : Fin 256) (k : Fin 3072) :
    iblk m c 1 t (ix2 a k : S256x3072.Idx) = m ((c : Thread nD τ).loc main_arg1) (ix2 (row t a) k : S2048x3072.Idx) := by
  have ht := point_lt t
  unfold row
  blk_ext [iblk, V, idx t]

/-- The staged block of the gain is the gain. -/
theorem blk2 (c : Dev nD) (t : Fin cfg0.N) (k : Fin 3072) :
    iblk m c 2 t (ix2 0 k : S1x3072.Idx) = m ((c : Thread nD τ).loc main_arg2) (ix1 k : S3072.Idx) := by
  have e : iblk m c 2 t (ix2 0 k : S1x3072.Idx) = V m c main_v0 (ix2 0 k : S1x3072.Idx) := by
    blk_ext [iblk, idx t]
  exact e.trans (V_gain m c k)

/-- The staged block of the codes of the weight is the part of the argument array it names. -/
theorem blk3 (c : Dev nD) (t : Fin cfg0.N) (k : Fin 768) (l : Fin 1536) :
    iblk m c 3 t (ix2 k l : S768x1536.Idx) = m ((c : Thread nD τ).loc main_arg3) (ix2 ⟨min t.val 3 * 768 + k.val, by omega⟩ l : S3072x1536.Idx) := by
  have ht := point_lt t
  blk_ext [iblk, V, idx t]

/-- The staged block of the scales of the weight is the part of the argument array it names. -/
theorem blk4 (c : Dev nD) (t : Fin cfg0.N) (k : Fin 24) (l : Fin 3072) :
    iblk m c 4 t (ix2 k l : S24x3072.Idx) = m ((c : Thread nD τ).loc main_arg4) (ix2 ⟨min t.val 3 * 24 + k.val, by omega⟩ l : S96x3072.Idx) := by
  have ht := point_lt t
  blk_ext [iblk, V, idx t]

/-- What the scratch holds before step `n`: the quarters of the widened weight made so far. -/
def Inv (c : Dev nD) (n : ℕ) (W : Vec Ideal S3072x3072 .bf16) : Prop :=
  ∀ (k l : Fin 3072), k.val < 768 * min n 4 →
    W (ix2 k l) = wref (m ((c : Thread nD τ).loc main_arg3)) (m ((c : Thread nD τ).loc main_arg4)) k l

/-- At the start nothing is asked of the scratch. -/
theorem inv_zero (c : Dev nD) (W : Vec Ideal S3072x3072 .bf16) : Inv m c 0 W := fun k l h => absurd h (by simp)

/-- A step that leaves the scratch alone keeps what is known of it. -/
theorem inv_keep (c : Dev nD) (t : Fin cfg0.N) (h : 4 ≤ t.val) (W : Vec Ideal S3072x3072 .bf16) (hW : Inv m c t.val W) : Inv m c (t.val + 1) W :=
  fun k l hk => hW k l (by omega)

/-- The hidden rows the reference gives of the launch's arguments. -/
def goal5 (c : Dev nD) : S2048x3072.Idx → EReal :=
  Cert.ProjRefIdeal.Read.val_main_v73 (F := Ideal) (m ((c : Thread nD τ).loc main_arg0)) (m ((c : Thread nD τ).loc main_arg1)) (m ((c : Thread nD τ).loc main_arg3)) (m ((c : Thread nD τ).loc main_arg4))

/-- The codes the reference gives of the launch's arguments. -/
def goal6 (c : Dev nD) : S2048x3072.Idx → BitVec 8 :=
  Cert.ProjRefIdeal.Read.val_main_v26 (F := Ideal) (m ((c : Thread nD τ).loc main_arg0))

/-- The row of steps the reference gives of the launch's arguments. -/
def goal7 (c : Dev nD) : S1x2048.Idx → EReal :=
  Cert.ProjRefIdeal.Read.val_main_v117 (F := Ideal) (m ((c : Thread nD τ).loc main_arg0))

/-- The row of zero points the reference gives of the launch's arguments. -/
def goal8 (c : Dev nD) : S1x2048.Idx → BitVec 32 :=
  Cert.ProjRefIdeal.Read.val_main_v118 (F := Ideal) (m ((c : Thread nD τ).loc main_arg0))

/-- The codes of the normalised rows the reference gives of the launch's arguments. -/
def goal9 (c : Dev nD) : S2048x3072.Idx → BitVec 8 :=
  Cert.ProjRefIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The centred codes of the normalised rows the reference gives of the launch's arguments. -/
def goal10 (c : Dev nD) : S2048x3072.Idx → EReal :=
  Cert.ProjRefIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The row of steps of the normalised rows the reference gives of the launch's arguments. -/
def goal11 (c : Dev nD) : S1x2048.Idx → EReal :=
  Cert.ProjRefIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The row of zero points of the normalised rows the reference gives of the launch's arguments. -/
def goal12 (c : Dev nD) : S1x2048.Idx → BitVec 32 :=
  Cert.ProjRefIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The steps of the normalised rows along the lanes the reference gives of the launch's arguments. -/
def goal13 (c : Dev nD) : S2048x128.Idx → EReal :=
  Cert.ProjRefIdeal.Read.val_main_v116 (F := Ideal) (m ((c : Thread nD τ).loc main_arg0)) (m ((c : Thread nD τ).loc main_arg1)) (m ((c : Thread nD τ).loc main_arg2)) (m ((c : Thread nD τ).loc main_arg3)) (m ((c : Thread nD τ).loc main_arg4))

section Step

variable (c : Dev nD) (t : Fin cfg0.N)

/-- A row of the staged block of the attention's output. -/
theorem row0 (a : Fin 256) : (fun x => iblk m c 0 t (ix2 a x : S256x3072.Idx)) = fun x => m ((c : Thread nD τ).loc main_arg0) (ix2 (row t a) x : S2048x3072.Idx) :=
  funext fun x => blk0 m c t a x

/-- The hidden rows a step computes are the reference's. -/
theorem hidden (h : 4 ≤ t.val) (W : Vec Ideal S3072x3072 .bf16) (hW : Inv m c t.val W) (a : Fin 256) (n : Fin 3072) :
    k0_pay91 (F := Ideal) (k0_pay85 (iblk m c 0 t)) (k0_pay89 (iblk m c 1 t)) (k0_pay90 (iblk m c 0 t)) W (ix2 a n) = Cert.ProjRefIdeal.Read.val_main_v73 (F := Ideal) (m ((c : Thread nD τ).loc main_arg0)) (m ((c : Thread nD τ).loc main_arg1)) (m ((c : Thread nD τ).loc main_arg3)) (m ((c : Thread nD τ).loc main_arg4)) (ix2 (row t a) n) := by
  refine (hidden_apply _ _ _ a n).trans (Eq.trans ?_ (Cert.ProjRefIdeal.Own.ref_hidden _ _ _ _ (row t a) n).symm)
  have e1 : (fun x => iblk m c 1 t (ix2 a x : S256x3072.Idx)) = fun x => m ((c : Thread nD τ).loc main_arg1) (ix2 (row t a) x : S2048x3072.Idx) := funext fun x => blk1 m c t a x
  have e2 : (fun k n => W (ix2 k n)) = wref (m ((c : Thread nD τ).loc main_arg3)) (m ((c : Thread nD τ).loc main_arg4)) := funext fun k => funext fun l => hW k l (by have := k.isLt; omega)
  refine congrFun ?_ n
  exact (congrArg (fun o => hrow o _ _) (row0 m c t a)).trans (congrArg₂ (fun x w => hrow _ x w) e1 e2)

/-- And so are the normalised rows. -/
theorem normed (h : 4 ≤ t.val) (W : Vec Ideal S3072x3072 .bf16) (hW : Inv m c t.val W) (a : Fin 256) :
    (fun n => k0_pay92 (F := Ideal) (k0_pay85 (iblk m c 0 t)) (k0_pay89 (iblk m c 1 t)) (k0_pay90 (iblk m c 0 t)) W (iblk m c 2 t) (ix2 a n)) = fun n => Cert.ProjRefIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t a) n) := by
  funext n
  refine (norm_apply _ _ _ _ _ a n).trans (Eq.trans ?_ (Cert.ProjRefIdeal.Own.ref_norm _ _ _ _ _ (row t a) n).symm)
  exact congrFun (congrArg₂ nrow (funext fun k => hidden m c t h W hW a k) (funext fun k => blk2 m c t k)) n

/-- What a multiplying step leaves in its block of the hidden rows. -/
theorem left5 (h : 4 ≤ t.val) (W : Vec Ideal S3072x3072 .bf16) (hW : Inv m c t.val W) (y : S256x3072.Idx) :
    k0_pay91 (F := Ideal) (k0_pay85 (iblk m c 0 t)) (k0_pay89 (iblk m c 1 t)) (k0_pay90 (iblk m c 0 t)) W y = goal5 m c ((win0_5.blk t).view.emb y) := by
  have ht := point_lt t
  obtain ⟨a, l, rfl⟩ : ∃ (a : Fin 256) (l : Fin 3072), y = ix2 a l := ⟨y 0, y 1, eq_ix2 y⟩
  have he : (win0_5.blk t).view.emb (ix2 a l) = (ix2 (row t a) l : S2048x3072.Idx) := by
    unfold row
    blk_ext [idx' t]
  rw [he]
  unfold goal5
  exact hidden m c t h W hW a l

/-- What a multiplying step leaves in its block of the codes. -/
theorem left6 (h : 4 ≤ t.val) (W : Vec Ideal S3072x3072 .bf16) (hW : Inv m c t.val W) (y : S256x3072.Idx) :
    k0_pay88 (F := Ideal) (iblk m c 0 t) y = goal6 m c ((win0_6.blk t).view.emb y) := by
  have ht := point_lt t
  obtain ⟨a, l, rfl⟩ : ∃ (a : Fin 256) (l : Fin 3072), y = ix2 a l := ⟨y 0, y 1, eq_ix2 y⟩
  have he : (win0_6.blk t).view.emb (ix2 a l) = (ix2 (row t a) l : S2048x3072.Idx) := by
    unfold row
    blk_ext [idx' t]
  rw [he]
  unfold goal6
  refine (byte_apply _ a l).trans (Eq.trans ?_ (Cert.ProjRefIdeal.Own.ref_byte _ (row t a) l).symm)
  exact congrArg (FloatOps.fptosi (F := Ideal) (φ := .f32) 8) (congrArg (fun r => qcode r r (r l)) (row0 m c t a))

/-- What a multiplying step leaves in its block of the row of steps. -/
theorem left7 (h : 4 ≤ t.val) (W : Vec Ideal S3072x3072 .bf16) (hW : Inv m c t.val W) (y : S1x256.Idx) :
    k0_pay2 (F := Ideal) (k0_pay102 (k0_pay85 (iblk m c 0 t)) (k0_pay86 (iblk m c 0 t)) (k0_pay94 (k0_pay85 (iblk m c 0 t)) (k0_pay89 (iblk m c 1 t)) (k0_pay90 (iblk m c 0 t)) W (iblk m c 2 t)) (k0_pay95 (k0_pay85 (iblk m c 0 t)) (k0_pay89 (iblk m c 1 t)) (k0_pay90 (iblk m c 0 t)) W (iblk m c 2 t)) (FloatOps.ofBits (F := Ideal) .f32 0x42FE0000#32) k0_pay96) y = goal7 m c ((win0_7.blk t).view.emb y) := by
  have ht := point_lt t
  obtain ⟨a, rfl⟩ : ∃ a : Fin 256, y = ix2 (0 : Fin 1) a := ⟨y 1, (eq_ix2 y).trans (congrArg (fun z : Fin 1 => ix2 z (y 1)) (Subsingleton.elim _ _))⟩
  have he : (win0_7.blk t).view.emb (ix2 (0 : Fin 1) a) = (ix2 (0 : Fin 1) (row t a) : S1x2048.Idx) := by
    unfold row
    blk_ext [idx' t]
  rw [he]
  unfold goal7
  refine ((rows_apply _ _ _ _ _ _ a).1.trans (step_apply _ a)).trans (Eq.trans ?_ (Cert.ProjRefIdeal.Own.ref_step_row _ (row t a)).symm)
  exact congrArg (fun r => qstep r r) (row0 m c t a)

/-- What a multiplying step leaves in its block of the row of zero points. -/
theorem left8 (h : 4 ≤ t.val) (W : Vec Ideal S3072x3072 .bf16) (hW : Inv m c t.val W) (y : S1x256.Idx) :
    k0_pay3 (F := Ideal) (k0_pay102 (k0_pay85 (iblk m c 0 t)) (k0_pay86 (iblk m c 0 t)) (k0_pay94 (k0_pay85 (iblk m c 0 t)) (k0_pay89 (iblk m c 1 t)) (k0_pay90 (iblk m c 0 t)) W (iblk m c 2 t)) (k0_pay95 (k0_pay85 (iblk m c 0 t)) (k0_pay89 (iblk m c 1 t)) (k0_pay90 (iblk m c 0 t)) W (iblk m c 2 t)) (FloatOps.ofBits (F := Ideal) .f32 0x42FE0000#32) k0_pay96) y = goal8 m c ((win0_8.blk t).view.emb y) := by
  have ht := point_lt t
  obtain ⟨a, rfl⟩ : ∃ a : Fin 256, y = ix2 (0 : Fin 1) a := ⟨y 1, (eq_ix2 y).trans (congrArg (fun z : Fin 1 => ix2 z (y 1)) (Subsingleton.elim _ _))⟩
  have he : (win0_8.blk t).view.emb (ix2 (0 : Fin 1) a) = (ix2 (0 : Fin 1) (row t a) : S1x2048.Idx) := by
    unfold row
    blk_ext [idx' t]
  rw [he]
  unfold goal8
  refine ((rows_apply _ _ _ _ _ _ a).2.1.trans (congrArg (FloatOps.fptosi (F := Ideal) (φ := .f32) 32) (zero_apply _ a))).trans (Eq.trans ?_ (Cert.ProjRefIdeal.Own.ref_zero_row _ (row t a)).symm)
  exact congrArg (fun r => FloatOps.fptosi (F := Ideal) (φ := .f32) 32 (qzero r r)) (row0 m c t a)

/-- What a multiplying step leaves in its block of the codes of the normalised rows. -/
theorem left9 (h : 4 ≤ t.val) (W : Vec Ideal S3072x3072 .bf16) (hW : Inv m c t.val W) (y : S256x3072.Idx) :
    k0_pay99 (F := Ideal) (k0_pay92 (k0_pay85 (iblk m c 0 t)) (k0_pay89 (iblk m c 1 t)) (k0_pay90 (iblk m c 0 t)) W (iblk m c 2 t)) (k0_pay94 (k0_pay85 (iblk m c 0 t)) (k0_pay89 (iblk m c 1 t)) (k0_pay90 (iblk m c 0 t)) W (iblk m c 2 t)) (k0_pay95 (k0_pay85 (iblk m c 0 t)) (k0_pay89 (iblk m c 1 t)) (k0_pay90 (iblk m c 0 t)) W (iblk m c 2 t)) (FloatOps.ofBits (F := Ideal) .f32 0x42FE0000#32) k0_pay96 y = goal9 m c ((win0_9.blk t).view.emb y) := by
  have ht := point_lt t
  obtain ⟨a, l, rfl⟩ : ∃ (a : Fin 256) (l : Fin 3072), y = ix2 a l := ⟨y 0, y 1, eq_ix2 y⟩
  have he : (win0_9.blk t).view.emb (ix2 a l) = (ix2 (row t a) l : S2048x3072.Idx) := by
    unfold row
    blk_ext [idx' t]
  rw [he]
  unfold goal9
  refine (byte2_apply _ _ _ _ _ a l).trans (Eq.trans ?_ (Cert.ProjRefIdeal.Own.ref2_byte _ _ _ _ _ (row t a) l).symm)
  exact congrArg (fun r : Fin 3072 → EReal => FloatOps.fptosi (F := Ideal) (φ := .f32) 8 (qcode r r (r l))) (normed m c t h W hW a)

/-- What a multiplying step leaves in its block of the centred codes of the normalised rows. -/
theorem left10 (h : 4 ≤ t.val) (W : Vec Ideal S3072x3072 .bf16) (hW : Inv m c t.val W) (y : S256x3072.Idx) :
    k0_pay100 (F := Ideal) (k0_pay92 (k0_pay85 (iblk m c 0 t)) (k0_pay89 (iblk m c 1 t)) (k0_pay90 (iblk m c 0 t)) W (iblk m c 2 t)) (k0_pay94 (k0_pay85 (iblk m c 0 t)) (k0_pay89 (iblk m c 1 t)) (k0_pay90 (iblk m c 0 t)) W (iblk m c 2 t)) (k0_pay95 (k0_pay85 (iblk m c 0 t)) (k0_pay89 (iblk m c 1 t)) (k0_pay90 (iblk m c 0 t)) W (iblk m c 2 t)) (FloatOps.ofBits (F := Ideal) .f32 0x42FE0000#32) k0_pay96 y = goal10 m c ((win0_10.blk t).view.emb y) := by
  have ht := point_lt t
  obtain ⟨a, l, rfl⟩ : ∃ (a : Fin 256) (l : Fin 3072), y = ix2 a l := ⟨y 0, y 1, eq_ix2 y⟩
  have he : (win0_10.blk t).view.emb (ix2 a l) = (ix2 (row t a) l : S2048x3072.Idx) := by
    unfold row
    blk_ext [idx' t]
  rw [he]
  unfold goal10
  refine (centred2_apply _ _ _ _ _ a l).trans (Eq.trans ?_ (Cert.ProjRefIdeal.Own.ref2_centred _ _ _ _ _ (row t a) l).symm)
  exact congrArg (fun r : Fin 3072 → EReal => qcode r r (r l) - qzero r r) (normed m c t h W hW a)

/-- What a multiplying step leaves in its block of the row of steps of the normalised rows. -/
theorem left11 (h : 4 ≤ t.val) (W : Vec Ideal S3072x3072 .bf16) (hW : Inv m c t.val W) (y : S1x256.Idx) :
    k0_pay4 (F := Ideal) (k0_pay102 (k0_pay85 (iblk m c 0 t)) (k0_pay86 (iblk m c 0 t)) (k0_pay94 (k0_pay85 (iblk m c 0 t)) (k0_pay89 (iblk m c 1 t)) (k0_pay90 (iblk m c 0 t)) W (iblk m c 2 t)) (k0_pay95 (k0_pay85 (iblk m c 0 t)) (k0_pay89 (iblk m c 1 t)) (k0_pay90 (iblk m c 0 t)) W (iblk m c 2 t)) (FloatOps.ofBits (F := Ideal) .f32 0x42FE0000#32) k0_pay96) y = goal11 m c ((win0_11.blk t).view.emb y) := by
  have ht := point_lt t
  obtain ⟨a, rfl⟩ : ∃ a : Fin 256, y = ix2 (0 : Fin 1) a := ⟨y 1, (eq_ix2 y).trans (congrArg (fun z : Fin 1 => ix2 z (y 1)) (Subsingleton.elim _ _))⟩
  have he : (win0_11.blk t).view.emb (ix2 (0 : Fin 1) a) = (ix2 (0 : Fin 1) (row t a) : S1x2048.Idx) := by
    unfold row
    blk_ext [idx' t]
  rw [he]
  unfold goal11
  refine ((rows_apply _ _ _ _ _ _ a).2.2.1.trans (step2_apply _ _ _ _ _ a)).trans (Eq.trans ?_ (Cert.ProjRefIdeal.Own.ref2_step_row _ _ _ _ _ (row t a)).symm)
  exact congrArg (fun r : Fin 3072 → EReal => qstep r r) (normed m c t h W hW a)

/-- What a multiplying step leaves in its block of the row of zero points of the normalised rows. -/
theorem left12 (h : 4 ≤ t.val) (W : Vec Ideal S3072x3072 .bf16) (hW : Inv m c t.val W) (y : S1x256.Idx) :
    k0_pay5 (F := Ideal) (k0_pay102 (k0_pay85 (iblk m c 0 t)) (k0_pay86 (iblk m c 0 t)) (k0_pay94 (k0_pay85 (iblk m c 0 t)) (k0_pay89 (iblk m c 1 t)) (k0_pay90 (iblk m c 0 t)) W (iblk m c 2 t)) (k0_pay95 (k0_pay85 (iblk m c 0 t)) (k0_pay89 (iblk m c 1 t)) (k0_pay90 (iblk m c 0 t)) W (iblk m c 2 t)) (FloatOps.ofBits (F := Ideal) .f32 0x42FE0000#32) k0_pay96) y = goal12 m c ((win0_12.blk t).view.emb y) := by
  have ht := point_lt t
  obtain ⟨a, rfl⟩ : ∃ a : Fin 256, y = ix2 (0 : Fin 1) a := ⟨y 1, (eq_ix2 y).trans (congrArg (fun z : Fin 1 => ix2 z (y 1)) (Subsingleton.elim _ _))⟩
  have he : (win0_12.blk t).view.emb (ix2 (0 : Fin 1) a) = (ix2 (0 : Fin 1) (row t a) : S1x2048.Idx) := by
    unfold row
    blk_ext [idx' t]
  rw [he]
  unfold goal12
  refine ((rows_apply _ _ _ _ _ _ a).2.2.2.trans (congrArg (FloatOps.fptosi (F := Ideal) (φ := .f32) 32) (zero2_apply _ _ _ _ _ a))).trans (Eq.trans ?_ (Cert.ProjRefIdeal.Own.ref2_zero_row _ _ _ _ _ (row t a)).symm)
  exact congrArg (fun r : Fin 3072 → EReal => FloatOps.fptosi (F := Ideal) (φ := .f32) 32 (qzero r r)) (normed m c t h W hW a)

/-- What a multiplying step leaves in its block of the steps along the lanes. -/
theorem left13 (h : 4 ≤ t.val) (W : Vec Ideal S3072x3072 .bf16) (hW : Inv m c t.val W) (y : S256x128.Idx) :
    k0_pay101 (F := Ideal) (k0_pay94 (k0_pay85 (iblk m c 0 t)) (k0_pay89 (iblk m c 1 t)) (k0_pay90 (iblk m c 0 t)) W (iblk m c 2 t)) y = goal13 m c ((win0_13.blk t).view.emb y) := by
  have ht := point_lt t
  obtain ⟨a, l, rfl⟩ : ∃ (a : Fin 256) (l : Fin 128), y = ix2 a l := ⟨y 0, y 1, eq_ix2 y⟩
  have he : (win0_13.blk t).view.emb (ix2 a l) = (ix2 (row t a) l : S2048x128.Idx) := by
    unfold row
    blk_ext [idx' t]
  rw [he]
  unfold goal13
  refine (lanes_apply _ _ _ _ _ a l).trans (Eq.trans ?_ (Cert.ProjRefIdeal.Own.ref2_lanes _ _ _ _ _ (row t a) l).symm)
  exact congrArg (fun r : Fin 3072 → EReal => qstep r r) (normed m c t h W hW a)

end Step

end Cert.ProjIdeal.Own

end
-- ==== Proof.ProjInv.lean ====
/- The output projection: what a widening step adds to the scratch. -/
module

public import proofs.«01_k».proof.Proof.ProjStores
public import proofs.«01_k».proof.Proof.ProjSteps

@[expose] public section

set_option maxRecDepth 16384

noncomputable section

namespace Cert.ProjIdeal.Own

open Cert.ProjIdeal Cert.ProjIdeal.Gen Cert.Own
open Idealize.ShloMosaic Idealize.ShloMosaic.TcCoe Idealize.ShloMosaic.Tactic
open Idealize.SL.Sem
open Cert.ProjRefIdeal.Own (wref)

variable (m : (ℓ : Loc nD τ sig) → Buf (Elt Ideal) ℓ)

/-- An element of the widened weight, from a quarter's codes and the scales of one half of its columns. -/
theorem quarter (c : Dev nD) (t : Fin cfg0.N) (h : t.val < 4) (nib : BitVec 8 → BitVec 32) (X5 : Vec Ideal S24x1536 .f32) (k : Fin 768) (l : Fin 1536) (k' n : Fin 3072)
    (hk : k'.val = 768 * t.val + k.val) (hX : X5 (ix2 ⟨k.val / 32, by omega⟩ l) = iblk m c 4 t (ix2 ⟨k.val / 32, by omega⟩ n : S24x3072.Idx)) :
    wval nib (iblk m c 3 t) X5 k l = (((nib (m ((c : Thread nD τ).loc main_arg3) (ix2 k' l : S3072x1536.Idx))).toInt : ℝ) : EReal)
      * m ((c : Thread nD τ).loc main_arg4) (ix2 ⟨k'.val / 32, by omega⟩ n : S96x3072.Idx) := by
  unfold wval
  refine congrArg₂ (fun (b : BitVec 8) (s : EReal) => (((nib b).toInt : ℝ) : EReal) * s) ((blk3 m c t k l).trans ?_) (hX.trans ((blk4 m c t _ n).trans ?_))
  · refine congrArg (fun z : Fin 3072 => m ((c : Thread nD τ).loc main_arg3) (ix2 z l : S3072x1536.Idx)) (Fin.ext ?_)
    show min t.val 3 * 768 + k.val = k'.val
    omega
  · refine congrArg (fun z : Fin 96 => m ((c : Thread nD τ).loc main_arg4) (ix2 z n : S96x3072.Idx)) (Fin.ext ?_)
    show min t.val 3 * 24 + k.val / 32 = k'.val / 32
    omega

/-- A scale of the first columns. -/
theorem scalesL_apply (x4 : Vec Ideal S24x3072 .f32) (g : Fin 24) (l : Fin 1536) : scalesL x4 (ix2 g l) = x4 (ix2 g ⟨l.val, by omega⟩) := by
  unfold scalesL
  refine congrArg x4 ?_
  funext a
  match a with
  | ⟨0, _⟩ => exact Fin.ext (show 0 + 1 * g.val = g.val by omega)
  | ⟨1, _⟩ => exact Fin.ext (show 0 + 1 * l.val = l.val by omega)

/-- A scale of the last columns. -/
theorem scalesR_apply (x4 : Vec Ideal S24x3072 .f32) (g : Fin 24) (l : Fin 1536) : scalesR x4 (ix2 g l) = x4 (ix2 g ⟨1536 + l.val, by omega⟩) := by
  unfold scalesR
  refine congrArg x4 ?_
  funext a
  match a with
  | ⟨0, _⟩ => exact Fin.ext (show 0 + 1 * g.val = g.val by omega)
  | ⟨1, _⟩ => exact Fin.ext (show 1536 + 1 * l.val = 1536 + l.val by omega)

/-- A step that stores a quarter of the widened weight adds it to what is known. -/
theorem inv_widen (c : Dev nD) (t : Fin cfg0.N) (h : t.val < 4) (hc0 : cond0_0 (grid0.coords t))
    (v : View sig .tc .vmem S3072x3072 .bf16) (f : v.ty.Contents (Elt Ideal)) (hW : Inv m c t.val (v.read (Elt Ideal) f)) :
    Inv m c (t.val + 1) (v.read (Elt Ideal) (v.writes (Elt Ideal) f (widened (grid0.coords t) hc0 (iblk m c 3 t) (iblk m c 4 t)))) := by
  intro k n hk
  have o1 : ∀ r : Fin 24, k0_off1 (grid0.coords t) (BitVec.ofNat 32 (32 * r.val)) = ![768 * t.val + 32 * r.val, 0] := fun r => by rw [k0_off1_eq, coord]
  have o2 : ∀ r : Fin 24, k0_off2 (grid0.coords t) (BitVec.ofNat 32 (32 * r.val)) = ![768 * t.val + 32 * r.val, 1536] := fun r => by rw [k0_off2_eq, coord]
  unfold widened
  rw [View.writes_append]
  by_cases hb : k.val < 768 * t.val
  · rw [groups_out _ _ _ _ _ t.val 1536 o2 v _ (ix2 k n) (.inl hb), groups_out _ _ _ _ _ t.val 0 o1 v _ (ix2 k n) (.inl hb)]
    exact hW k n (by omega)
  · have hk' : k.val = 768 * t.val + (⟨k.val - 768 * t.val, by omega⟩ : Fin 768).val := by dsimp only; omega
    unfold wref
    by_cases hn : n.val < 1536
    · rw [dif_pos hn, groups_out _ _ _ _ _ t.val 1536 o2 v _ (ix2 k n) (.inr (.inl hn)),
        groups_in _ _ _ _ _ lowNibble low_apply t.val 0 o1 v _ (ix2 k n) ⟨k.val - 768 * t.val, by omega⟩ hk' ⟨n.val, hn⟩ (show n.val = 0 + n.val by omega)]
      exact quarter m c t h _ _ _ _ k n hk' (scalesL_apply _ _ _)
    · rw [dif_neg hn, groups_in _ _ _ _ _ highNibble high_apply t.val 1536 o2 v _ (ix2 k n) ⟨k.val - 768 * t.val, by omega⟩ hk' ⟨n.val - 1536, by omega⟩ (show n.val = 1536 + (n.val - 1536) by omega)]
      refine quarter m c t h _ _ _ _ k n hk' ((scalesR_apply _ _ _).trans ?_)
      refine congrArg (fun z : Fin 3072 => iblk m c 4 t (ix2 _ z : S24x3072.Idx)) (Fin.ext ?_)
      show 1536 + (n.val - 1536) = n.val
      omega

end Cert.ProjIdeal.Own

end
-- ==== Proof.ProjStoresB.lean ====
/- The output projection: the stores of its multiplying steps. -/
module

public import proofs.«01_k».proof.Proof.ProjRun
public import proofs.«01_k».proof.Proof.ProjPieces
public import Idealize.ShloMosaic.Lib.Pipeline.ValueKit
public import Idealize.ShloMosaic.Lib.IdealHost
public import Idealize.ShloMosaic.Lib.Pointwise

@[expose] public section

set_option maxRecDepth 16384

noncomputable section

namespace Cert.ProjIdeal.Own

open Cert.ProjIdeal Cert.ProjIdeal.Gen Cert.Own
open Idealize.ShloMosaic Idealize.ShloMosaic.TcCoe Idealize.ShloMosaic.Tactic
open Idealize.SL.Sem

/-- The store of the hidden rows covers its buffer. -/
theorem cover_B_5 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) (y : S256x3072.Idx) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).1 S256x3072.size (by sl_kernel_rfl) y

/-- The store of the hidden rows. -/
theorem stored_B_5 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).1 = k0_pay91 (F := Ideal) (k0_pay85 x0) (k0_pay89 x1) (k0_pay90 x0) w := by
  frame_out

/-- The store of the codes covers its buffer. -/
theorem cover_B_6 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) (y : S256x3072.Idx) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.1 S256x3072.size (by sl_kernel_rfl) y

/-- The store of the codes. -/
theorem stored_B_6 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.1 = k0_pay88 (F := Ideal) x0 := by
  frame_out

/-- The store of the row of steps covers its buffer. -/
theorem cover_B_7 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) (y : S1x256.Idx) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.1 S1x256.size (by sl_kernel_rfl) y

/-- The store of the row of steps. -/
theorem stored_B_7 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.1 = k0_pay2 (F := Ideal) (k0_pay102 (k0_pay85 x0) (k0_pay86 x0) (k0_pay94 (k0_pay85 x0) (k0_pay89 x1) (k0_pay90 x0) w x2) (k0_pay95 (k0_pay85 x0) (k0_pay89 x1) (k0_pay90 x0) w x2) (FloatOps.ofBits (F := Ideal) .f32 0x42FE0000#32) k0_pay96) := by
  frame_out

/-- The store of the row of zero points covers its buffer. -/
theorem cover_B_8 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) (y : S1x256.Idx) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.1 S1x256.size (by sl_kernel_rfl) y

/-- The store of the row of zero points. -/
theorem stored_B_8 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.1 = k0_pay3 (F := Ideal) (k0_pay102 (k0_pay85 x0) (k0_pay86 x0) (k0_pay94 (k0_pay85 x0) (k0_pay89 x1) (k0_pay90 x0) w x2) (k0_pay95 (k0_pay85 x0) (k0_pay89 x1) (k0_pay90 x0) w x2) (FloatOps.ofBits (F := Ideal) .f32 0x42FE0000#32) k0_pay96) := by
  frame_out

/-- The store of the codes of the normalised rows covers its buffer. -/
theorem cover_B_9 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) (y : S256x3072.Idx) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.1 S256x3072.size (by sl_kernel_rfl) y

/-- The store of the codes of the normalised rows. -/
theorem stored_B_9 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.1 = k0_pay99 (F := Ideal) (k0_pay92 (k0_pay85 x0) (k0_pay89 x1) (k0_pay90 x0) w x2) (k0_pay94 (k0_pay85 x0) (k0_pay89 x1) (k0_pay90 x0) w x2) (k0_pay95 (k0_pay85 x0) (k0_pay89 x1) (k0_pay90 x0) w x2) (FloatOps.ofBits (F := Ideal) .f32 0x42FE0000#32) k0_pay96 := by
  frame_out

/-- The store of the centred codes of the normalised rows covers its buffer. -/
theorem cover_B_10 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) (y : S256x3072.Idx) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.1 S256x3072.size (by sl_kernel_rfl) y

/-- The store of the centred codes of the normalised rows. -/
theorem stored_B_10 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.1 = k0_pay100 (F := Ideal) (k0_pay92 (k0_pay85 x0) (k0_pay89 x1) (k0_pay90 x0) w x2) (k0_pay94 (k0_pay85 x0) (k0_pay89 x1) (k0_pay90 x0) w x2) (k0_pay95 (k0_pay85 x0) (k0_pay89 x1) (k0_pay90 x0) w x2) (FloatOps.ofBits (F := Ideal) .f32 0x42FE0000#32) k0_pay96 := by
  frame_out

/-- The store of the row of steps of the normalised rows covers its buffer. -/
theorem cover_B_11 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) (y : S1x256.Idx) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.2.1 S1x256.size (by sl_kernel_rfl) y

/-- The store of the row of steps of the normalised rows. -/
theorem stored_B_11 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.2.1 = k0_pay4 (F := Ideal) (k0_pay102 (k0_pay85 x0) (k0_pay86 x0) (k0_pay94 (k0_pay85 x0) (k0_pay89 x1) (k0_pay90 x0) w x2) (k0_pay95 (k0_pay85 x0) (k0_pay89 x1) (k0_pay90 x0) w x2) (FloatOps.ofBits (F := Ideal) .f32 0x42FE0000#32) k0_pay96) := by
  frame_out

/-- The store of the row of zero points of the normalised rows covers its buffer. -/
theorem cover_B_12 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) (y : S1x256.Idx) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.2.2.1 S1x256.size (by sl_kernel_rfl) y

/-- The store of the row of zero points of the normalised rows. -/
theorem stored_B_12 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.2.2.1 = k0_pay5 (F := Ideal) (k0_pay102 (k0_pay85 x0) (k0_pay86 x0) (k0_pay94 (k0_pay85 x0) (k0_pay89 x1) (k0_pay90 x0) w x2) (k0_pay95 (k0_pay85 x0) (k0_pay89 x1) (k0_pay90 x0) w x2) (FloatOps.ofBits (F := Ideal) .f32 0x42FE0000#32) k0_pay96) := by
  frame_out

/-- The store of the steps along the lanes covers its buffer. -/
theorem cover_B_13 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) (y : S256x128.Idx) :
    ∃ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.2.2.2.1, y ∈ p.1.set :=
  View.cover_of_tiledL (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.2.2.2.1 S256x128.size (by sl_kernel_rfl) y

/-- The store of the steps along the lanes. -/
theorem stored_B_13 (c : Dev nD) (i : grid0.Coords) (arg1 : Memref sig .tc .vmem S256x3072 .f32) (harg1 : arg1.IsWhole) (arg2 : Memref sig .tc .vmem S256x3072 .bf16) (harg2 : arg2.IsWhole) (arg3 : Memref sig .tc .vmem S1x3072 .f32) (harg3 : arg3.IsWhole) (arg4 : Memref sig .tc .vmem S768x1536 .i8) (harg4 : arg4.IsWhole) (arg5 : Memref sig .tc .vmem S24x3072 .f32) (harg5 : arg5.IsWhole) (arg6 : Memref sig .tc .vmem S256x3072 .f32) (harg6 : arg6.IsWhole) (arg7 : Memref sig .tc .vmem S256x3072 .i8) (harg7 : arg7.IsWhole) (arg8 : Memref sig .tc .vmem S1x256 .f32) (harg8 : arg8.IsWhole) (arg9 : Memref sig .tc .vmem S1x256 .i32) (harg9 : arg9.IsWhole) (arg10 : Memref sig .tc .vmem S256x3072 .i8) (harg10 : arg10.IsWhole) (arg11 : Memref sig .tc .vmem S256x3072 .bf16) (harg11 : arg11.IsWhole) (arg12 : Memref sig .tc .vmem S1x256 .f32) (harg12 : arg12.IsWhole) (arg13 : Memref sig .tc .vmem S1x256 .i32) (harg13 : arg13.IsWhole) (arg14 : Memref sig .tc .vmem S256x128 .f32) (harg14 : arg14.IsWhole) (arg15 : Memref sig .tc .vmem S3072x3072 .bf16) (harg15 : arg15.IsWhole) (hc0 : ¬cond0_0 i) (hc1 : cond0_1 i)
    (x0 : Vec Ideal S256x3072 .f32) (x1 : Vec Ideal S256x3072 .bf16) (x2 : Vec Ideal S1x3072 .f32) (x3 : Vec Ideal S768x1536 .i8) (x4 : Vec Ideal S24x3072 .f32) (w : Vec Ideal S3072x3072 .bf16) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 w).2.2.2.2.2.2.2.2.1 = k0_pay101 (F := Ideal) (k0_pay94 (k0_pay85 x0) (k0_pay89 x1) (k0_pay90 x0) w x2) := by
  frame_out

end Cert.ProjIdeal.Own

end
-- ==== Proof.ProjFrame.lean ====
/- The output projection as a whole run: what its scratch holds from step to step, and its nine result arrays named. -/
module

public import proofs.«01_k».proof.Proof.ProjInv
public import proofs.«01_k».proof.Proof.ProjStoresB
public import Idealize.ShloMosaic.Lib.Claim
public import Idealize.ShloMosaic.Lib.Pipeline.DatRel
public import Idealize.ShloMosaic.Lib.Pipeline.ArrRel

@[expose] public section

set_option maxRecDepth 16384

noncomputable section

namespace Cert.ProjIdeal.Own

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg)

/-- The result windows, of which what a step leaves is held to a predicate. -/
def held0 : Fin 14 → Bool := fun w => 5 ≤ w.val

/-- What is asked of each result window after a step: once the weight is widened, the block of the reference's result. -/
def rel0 (c : Dev nD) (w : Fin cfg0.W) (t : Fin cfg0.N) : ((cfg0.win w).block.Idx → Elt Ideal (cfg0.win w).elt) → Prop := match w with
  | ⟨5, _⟩ => fun (X : S256x3072.Idx → EReal) => 4 ≤ t.val → ∀ y, X y = goal5 m c ((win0_5.blk t).view.emb y)
  | ⟨6, _⟩ => fun (X : S256x3072.Idx → BitVec 8) => 4 ≤ t.val → ∀ y, X y = goal6 m c ((win0_6.blk t).view.emb y)
  | ⟨7, _⟩ => fun (X : S1x256.Idx → EReal) => 4 ≤ t.val → ∀ y, X y = goal7 m c ((win0_7.blk t).view.emb y)
  | ⟨8, _⟩ => fun (X : S1x256.Idx → BitVec 32) => 4 ≤ t.val → ∀ y, X y = goal8 m c ((win0_8.blk t).view.emb y)
  | ⟨9, _⟩ => fun (X : S256x3072.Idx → BitVec 8) => 4 ≤ t.val → ∀ y, X y = goal9 m c ((win0_9.blk t).view.emb y)
  | ⟨10, _⟩ => fun (X : S256x3072.Idx → EReal) => 4 ≤ t.val → ∀ y, X y = goal10 m c ((win0_10.blk t).view.emb y)
  | ⟨11, _⟩ => fun (X : S1x256.Idx → EReal) => 4 ≤ t.val → ∀ y, X y = goal11 m c ((win0_11.blk t).view.emb y)
  | ⟨12, _⟩ => fun (X : S1x256.Idx → BitVec 32) => 4 ≤ t.val → ∀ y, X y = goal12 m c ((win0_12.blk t).view.emb y)
  | ⟨13, _⟩ => fun (X : S256x128.Idx → EReal) => 4 ≤ t.val → ∀ y, X y = goal13 m c ((win0_13.blk t).view.emb y)
  | _ => fun _ => True

/-- The proof data of the one pipeline on core `c`: each input's buffer at its block, and the scratch at contents of which `Inv` holds. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := iprop((∃ W, ⌜Inv m c t.val W⌝ ∗ owns (c : Thread nD τ) scM0_0 fullShare W) ∗ (∃ r, prngReg c r))
  q _ := fullShare
  owed _ := 0

/-- The invariant before a step. -/
theorem Phi_eq (c : Dev nD) (t : Fin (cfg0.N + 1)) :
    (dats m 0 c).Φ t = (iprop((∃ W, ⌜Inv m c t.val W⌝ ∗ owns (c : Thread nD τ) scM0_0 fullShare W) ∗ (∃ r, prngReg c r)) : sProp 𝕄) := by
  dsimp only [dats]

/-- The proof data's arrays are the region-entry contents. -/
theorem A_eq (c : Dev nD) (w : Fin cfg0.W) : (dats m 0 c).A w = V m c (Pipeline.arrRef spec0 w) := by
  dsimp only [dats]

/-- What the body leaves in the inputs' buffers. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜((dats m 0 c).toRRel held0 (rel0 m c)).Finds 5 t Y⌝ ∗ owns (c : Thread nD τ) (ms0_5 t) fullShare Y)
    ∗ (∃ Y, ⌜((dats m 0 c).toRRel held0 (rel0 m c)).Finds 6 t Y⌝ ∗ owns (c : Thread nD τ) (ms0_6 t) fullShare Y)
    ∗ (∃ Y, ⌜((dats m 0 c).toRRel held0 (rel0 m c)).Finds 7 t Y⌝ ∗ owns (c : Thread nD τ) (ms0_7 t) fullShare Y)
    ∗ (∃ Y, ⌜((dats m 0 c).toRRel held0 (rel0 m c)).Finds 8 t Y⌝ ∗ owns (c : Thread nD τ) (ms0_8 t) fullShare Y)
    ∗ (∃ Y, ⌜((dats m 0 c).toRRel held0 (rel0 m c)).Finds 9 t Y⌝ ∗ owns (c : Thread nD τ) (ms0_9 t) fullShare Y)
    ∗ (∃ Y, ⌜((dats m 0 c).toRRel held0 (rel0 m c)).Finds 10 t Y⌝ ∗ owns (c : Thread nD τ) (ms0_10 t) fullShare Y)
    ∗ (∃ Y, ⌜((dats m 0 c).toRRel held0 (rel0 m c)).Finds 11 t Y⌝ ∗ owns (c : Thread nD τ) (ms0_11 t) fullShare Y)
    ∗ (∃ Y, ⌜((dats m 0 c).toRRel held0 (rel0 m c)).Finds 12 t Y⌝ ∗ owns (c : Thread nD τ) (ms0_12 t) fullShare Y)
    ∗ (∃ Y, ⌜((dats m 0 c).toRRel held0 (rel0 m c)).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜rel0 m c 5 t X⌝ ∗ owns (c : Thread nD τ) (ms0_5 t) fullShare X)
    ∗ (∃ X, ⌜rel0 m c 6 t X⌝ ∗ owns (c : Thread nD τ) (ms0_6 t) fullShare X)
    ∗ (∃ X, ⌜rel0 m c 7 t X⌝ ∗ owns (c : Thread nD τ) (ms0_7 t) fullShare X)
    ∗ (∃ X, ⌜rel0 m c 8 t X⌝ ∗ owns (c : Thread nD τ) (ms0_8 t) fullShare X)
    ∗ (∃ X, ⌜rel0 m c 9 t X⌝ ∗ owns (c : Thread nD τ) (ms0_9 t) fullShare X)
    ∗ (∃ X, ⌜rel0 m c 10 t X⌝ ∗ owns (c : Thread nD τ) (ms0_10 t) fullShare X)
    ∗ (∃ X, ⌜rel0 m c 11 t X⌝ ∗ owns (c : Thread nD τ) (ms0_11 t) fullShare X)
    ∗ (∃ X, ⌜rel0 m c 12 t X⌝ ∗ owns (c : Thread nD τ) (ms0_12 t) fullShare X)
    ∗ (∃ X, ⌜rel0 m c 13 t X⌝ ∗ owns (c : Thread nD τ) (ms0_13 t) fullShare X))

set_option maxHeartbeats 4000000 in
/-- The body at any point: the closed forms say which of the two cases the point is in, and the case's run applies. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, after0_0, after0_1, after0_2, after0_3, after0_4]
  rw [show (dats m 0 c).owesAt () t.succ = (dats m 0 c).owesAt () t.castSucc from rfl, Phi_eq, Phi_eq]
  rw [show (t.castSucc : Fin (cfg0.N + 1)).val = t.val from rfl, show (t.succ : Fin (cfg0.N + 1)).val = t.val + 1 from rfl]
  have hN : t.val < 12 := point_lt t
  by_cases h0 : t.val < 4
  · have h1 : ¬ 4 ≤ t.val := by omega
    iintro ⟨⟨⟨%W, %hW, HS0⟩, Hg⟩, Ho, ⟨%d0, H0⟩, ⟨%d1, H1⟩, ⟨%d2, H2⟩, ⟨%d3, H3⟩, ⟨%d4, H4⟩, ⟨%d5, %f5, H5⟩, ⟨%d6, %f6, H6⟩, ⟨%d7, %f7, H7⟩, ⟨%d8, %f8, H8⟩, ⟨%d9, %f9, H9⟩, ⟨%d10, %f10, H10⟩, ⟨%d11, %f11, H11⟩, ⟨%d12, %f12, H12⟩, ⟨%d13, %f13, H13⟩⟩
    iapply ((kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (fun h => h1 ((hcond0_1 t).mp h)) (iblk m c 0 t) (iblk m c 1 t) (iblk m c 2 t) (iblk m c 3 t) (iblk m c 4 t)).2 W Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    iintro ⟨H0, H1, H2, H3, H4, H5, H6, H7, H8, H9, H10, H11, H12, H13, HS0⟩
    rw [stores_A]
    isplitl [HS0 Hg]
    · isplitl [HS0]
      · iexists _; isplitr
        swap
        · unfold owns; iexists _; isplitr; swap; · iexact HS0
          ipureintro; rfl
        ipureintro
        exact inv_widen m c t h0 ((hcond0_0 t).mpr h0) _ _ (by rw [(Memref.isWhole_whole _).read_unread]; exact hW)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · icases H5 with ⟨%X5, H5⟩; iexists X5; isplitr; · ipureintro; exact fun h => absurd h h1
      iexact H5
    isplitl [H6]
    · icases H6 with ⟨%X6, H6⟩; iexists X6; isplitr; · ipureintro; exact fun h => absurd h h1
      iexact H6
    isplitl [H7]
    · icases H7 with ⟨%X7, H7⟩; iexists X7; isplitr; · ipureintro; exact fun h => absurd h h1
      iexact H7
    isplitl [H8]
    · icases H8 with ⟨%X8, H8⟩; iexists X8; isplitr; · ipureintro; exact fun h => absurd h h1
      iexact H8
    isplitl [H9]
    · icases H9 with ⟨%X9, H9⟩; iexists X9; isplitr; · ipureintro; exact fun h => absurd h h1
      iexact H9
    isplitl [H10]
    · icases H10 with ⟨%X10, H10⟩; iexists X10; isplitr; · ipureintro; exact fun h => absurd h h1
      iexact H10
    isplitl [H11]
    · icases H11 with ⟨%X11, H11⟩; iexists X11; isplitr; · ipureintro; exact fun h => absurd h h1
      iexact H11
    isplitl [H12]
    · icases H12 with ⟨%X12, H12⟩; iexists X12; isplitr; · ipureintro; exact fun h => absurd h h1
      iexact H12
    icases H13 with ⟨%X13, H13⟩; iexists X13; isplitr; · ipureintro; exact fun h => absurd h h1
    iexact H13
  · have h1 : 4 ≤ t.val := by omega
    iintro ⟨⟨⟨%W, %hW, HS0⟩, Hg⟩, Ho, ⟨%d0, H0⟩, ⟨%d1, H1⟩, ⟨%d2, H2⟩, ⟨%d3, H3⟩, ⟨%d4, H4⟩, ⟨%d5, %f5, H5⟩, ⟨%d6, %f6, H6⟩, ⟨%d7, %f7, H7⟩, ⟨%d8, %f8, H8⟩, ⟨%d9, %f9, H9⟩, ⟨%d10, %f10, H10⟩, ⟨%d11, %f11, H11⟩, ⟨%d12, %f12, H12⟩, ⟨%d13, %f13, H13⟩⟩
    iapply ((kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) W).2.2.2.2.2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, HS0⟩
    isplitl [HS0 Hg]
    · isplitl [HS0]
      · iexists W; isplitr; · ipureintro; exact inv_keep m c t h1 W hW
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) W).1); isplitr
      · ipureintro; exact fun h y => (congrFun (stored_B_5 c _ _ _ _ _ _ _ _ _ _ _ _ _ _ _ _ _ _ _ _ _ _ _ _ _ _ _ _ _ _ _ _ _ _ _ _ _ _ _) y).trans (left5 m c t h W hW y)
      unfold owns; iexists _; isplitr; swap; · iexact H5
      ipureintro; funext y; exact View.read_writes_apply_eq_canon _ _ _ _ (cover_B_5 c _ _ _ _ _ _ _ _ _ _ _ _ _ _ _ _ _ _ _ _ _ _ _ _ _ _ _ _ _ _ _ _ _ _ _ _ _ _ _ y)
    isplitl [H6]
    · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) W).2.1); isplitr
      · ipureintro; exact fun h y => (congrFun (stored_B_6 c _ _ _ _ _ _ _ _ _ _ _ _ _ _ _ _ _ _ _ _ _ _ _ _ _ _ _ _ _ _ _ _ _ _ _ _ _ _ _) y).trans (left6 m c t h W hW y)
      unfold owns; iexists _; isplitr; swap; · iexact H6
      ipureintro; funext y; exact View.read_writes_apply_eq_canon _ _ _ _ (cover_B_6 c _ _ _ _ _ _ _ _ _ _ _ _ _ _ _ _ _ _ _ _ _ _ _ _ _ _ _ _ _ _ _ _ _ _ _ _ _ _ _ y)
    isplitl [H7]
    · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) W).2.2.1); isplitr
      · ipureintro; exact fun h y => (congrFun (stored_B_7 c _ _ _ _ _ _ _ _ _ _ _ _ _ _ _ _ _ _ _ _ _ _ _ _ _ _ _ _ _ _ _ _ _ _ _ _ _ _ _) y).trans (left7 m c t h W hW y)
      unfold owns; iexists _; isplitr; swap; · iexact H7
      ipureintro; funext y; exact View.read_writes_apply_eq_canon _ _ _ _ (cover_B_7 c _ _ _ _ _ _ _ _ _ _ _ _ _ _ _ _ _ _ _ _ _ _ _ _ _ _ _ _ _ _ _ _ _ _ _ _ _ _ _ y)
    isplitl [H8]
    · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) W).2.2.2.1); isplitr
      · ipureintro; exact fun h y => (congrFun (stored_B_8 c _ _ _ _ _ _ _ _ _ _ _ _ _ _ _ _ _ _ _ _ _ _ _ _ _ _ _ _ _ _ _ _ _ _ _ _ _ _ _) y).trans (left8 m c t h W hW y)
      unfold owns; iexists _; isplitr; swap; · iexact H8
      ipureintro; funext y; exact View.read_writes_apply_eq_canon _ _ _ _ (cover_B_8 c _ _ _ _ _ _ _ _ _ _ _ _ _ _ _ _ _ _ _ _ _ _ _ _ _ _ _ _ _ _ _ _ _ _ _ _ _ _ _ y)
    isplitl [H9]
    · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) W).2.2.2.2.1); isplitr
      · ipureintro; exact fun h y => (congrFun (stored_B_9 c _ _ _ _ _ _ _ _ _ _ _ _ _ _ _ _ _ _ _ _ _ _ _ _ _ _ _ _ _ _ _ _ _ _ _ _ _ _ _) y).trans (left9 m c t h W hW y)
      unfold owns; iexists _; isplitr; swap; · iexact H9
      ipureintro; funext y; exact View.read_writes_apply_eq_canon _ _ _ _ (cover_B_9 c _ _ _ _ _ _ _ _ _ _ _ _ _ _ _ _ _ _ _ _ _ _ _ _ _ _ _ _ _ _ _ _ _ _ _ _ _ _ _ y)
    isplitl [H10]
    · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) W).2.2.2.2.2.1); isplitr
      · ipureintro; exact fun h y => (congrFun (stored_B_10 c _ _ _ _ _ _ _ _ _ _ _ _ _ _ _ _ _ _ _ _ _ _ _ _ _ _ _ _ _ _ _ _ _ _ _ _ _ _ _) y).trans (left10 m c t h W hW y)
      unfold owns; iexists _; isplitr; swap; · iexact H10
      ipureintro; funext y; exact View.read_writes_apply_eq_canon _ _ _ _ (cover_B_10 c _ _ _ _ _ _ _ _ _ _ _ _ _ _ _ _ _ _ _ _ _ _ _ _ _ _ _ _ _ _ _ _ _ _ _ _ _ _ _ y)
    isplitl [H11]
    · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) W).2.2.2.2.2.2.1); isplitr
      · ipureintro; exact fun h y => (congrFun (stored_B_11 c _ _ _ _ _ _ _ _ _ _ _ _ _ _ _ _ _ _ _ _ _ _ _ _ _ _ _ _ _ _ _ _ _ _ _ _ _ _ _) y).trans (left11 m c t h W hW y)
      unfold owns; iexists _; isplitr; swap; · iexact H11
      ipureintro; funext y; exact View.read_writes_apply_eq_canon _ _ _ _ (cover_B_11 c _ _ _ _ _ _ _ _ _ _ _ _ _ _ _ _ _ _ _ _ _ _ _ _ _ _ _ _ _ _ _ _ _ _ _ _ _ _ _ y)
    isplitl [H12]
    · iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) W).2.2.2.2.2.2.2.1); isplitr
      · ipureintro; exact fun h y => (congrFun (stored_B_12 c _ _ _ _ _ _ _ _ _ _ _ _ _ _ _ _ _ _ _ _ _ _ _ _ _ _ _ _ _ _ _ _ _ _ _ _ _ _ _) y).trans (left12 m c t h W hW y)
      unfold owns; iexists _; isplitr; swap; · iexact H12
      ipureintro; funext y; exact View.read_writes_apply_eq_canon _ _ _ _ (cover_B_12 c _ _ _ _ _ _ _ _ _ _ _ _ _ _ _ _ _ _ _ _ _ _ _ _ _ _ _ _ _ _ _ _ _ _ _ _ _ _ _ y)
    iexists (View.canon (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) ((hcond0_1 t).mpr h1) (iblk m c 0 t) (iblk m c 1 t) (iblk m c 2 t) (iblk m c 3 t) (iblk m c 4 t) W).2.2.2.2.2.2.2.2.1); isplitr
    · ipureintro; exact fun h y => (congrFun (stored_B_13 c _ _ _ _ _ _ _ _ _ _ _ _ _ _ _ _ _ _ _ _ _ _ _ _ _ _ _ _ _ _ _ _ _ _ _ _ _ _ _) y).trans (left13 m c t h W hW y)
    unfold owns; iexists _; isplitr; swap; · iexact H13
    ipureintro; funext y; exact View.read_writes_apply_eq_canon _ _ _ _ (cover_B_13 c _ _ _ _ _ _ _ _ _ _ _ _ _ _ _ _ _ _ _ _ _ _ _ _ _ _ _ _ _ _ _ _ _ _ _ _ _ _ _ y)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationRel (dats m 0 c) (defs₀ (F := Ideal)) Variants.none () Set.univ held0 (rel0 m c) := fun t => by
  rw [bigSep_W0, bigSep_W0, defs₀_row]
  exact triple_restated (sound_body m c t) rfl .rfl fun _ => .rfl

/-- The invariant before the first step is the class's. -/
theorem Phi_in (c : Dev nD) : Pipeline.ΦA spec0 c ⊢ (dats m 0 c).Φ 0 := by
  rw [PhiA0_eq, Phi_eq]
  iintro ⟨⟨%W, HS0⟩, Hg⟩
  isplitl [HS0]
  · iexists W; isplitr; · ipureintro; exact inv_zero m c W
    iexact HS0
  iexact Hg

/-- The invariant after the last step gives the class's. -/
theorem Phi_out (c : Dev nD) : (dats m 0 c).Φ (Fin.last cfg0.N) ⊢ Pipeline.ΦA spec0 c := by
  rw [PhiA0_eq, Phi_eq]
  iintro ⟨⟨%W, %hW, HS0⟩, Hg⟩
  isplitl [HS0]
  · iexists W; iexact HS0
  iexact Hg

set_option backward.isDefEq.respectTransparency.types false in
/-- The launch: the run's statement, and every semaphore counter of the machine at zero at every final state. -/
theorem run_main_quiescent : θ_run defs (onTc (τ := τ) (main (F := Ideal))) (s₀ m ρ)
    (fun r => (RDat.FramePost (cfgs 0) (fun c => (dats m 0 c).toRRel held0 (rel0 m c)) (V m)) r ∧ r.2.sem = fun _ => 0) :=
  RDat.θ_run_frame_track cfgs (0 : Fin 1) launch0 defs₀ Variants.none (fun c => (dats m 0 c).toRRel held0 (rel0 m c)) m ρ main
    (fun c => (body_obligation m c).toRRel) (fun c => (dats m 0 c).share_full fun _ => rfl) (fun _ _ => rfl) (V m) (hmain m Variants.none) (A_eq m)
    (Phi_in m) (Phi_out m) _ (fun _ h => h)

/-- The run with the nine result arrays named and the arguments as launched. -/
theorem run_blocks : θ_run defs (onTc (τ := τ) (main (F := Ideal))) ⟨m, fun _ => 0, ρ⟩ fun r => ∀ c : Dev nD,
      r.2.mem ((c : Thread nD τ).loc main_v1_0) = goal5 m c
      ∧ r.2.mem ((c : Thread nD τ).loc main_v1_1) = goal6 m c
      ∧ r.2.mem ((c : Thread nD τ).loc main_v1_2) = goal7 m c
      ∧ r.2.mem ((c : Thread nD τ).loc main_v1_3) = goal8 m c
      ∧ r.2.mem ((c : Thread nD τ).loc main_v1_4) = goal9 m c
      ∧ r.2.mem ((c : Thread nD τ).loc main_v1_5) = goal10 m c
      ∧ r.2.mem ((c : Thread nD τ).loc main_v1_6) = goal11 m c
      ∧ r.2.mem ((c : Thread nD τ).loc main_v1_7) = goal12 m c
      ∧ r.2.mem ((c : Thread nD τ).loc main_v1_8) = goal13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h, -⟩ := h
    obtain ⟨after, hL, hA⟩ := RDat.FramePost.exists_exact h c
    refine ⟨(hA 5).trans ?_, (hA 6).trans ?_, (hA 7).trans ?_, (hA 8).trans ?_, (hA 9).trans ?_, (hA 10).trans ?_, (hA 11).trans ?_, (hA 12).trans ?_, (hA 13).trans ?_,
      (RDat.FramePost.arr_in h c 0 rfl).trans ((A_eq m c 0).trans (V_main_arg0 m c)),
      (RDat.FramePost.arr_in h c 1 rfl).trans ((A_eq m c 1).trans (V_main_arg1 m c)),
      ((h c).2 main_arg2 (Pipeline.mem_restRefs_of main_arg2 (by decide) (by decide))).trans (V_main_arg2 m c),
      (RDat.FramePost.arr_in h c 3 rfl).trans ((A_eq m c 3).trans (V_main_arg3 m c)),
      (RDat.FramePost.arr_in h c 4 rfl).trans ((A_eq m c 4).trans (V_main_arg4 m c))⟩
    · refine Dat.arrAt_eq_of_covers _ 5 _ (by decide +kernel) fun t hf y => ?_
      have hX := Dat.toRRel_leaves (dats m 0 c) (fgt := held0) (Rl := rel0 m c) (w := 5) rfl (hL 5 t hf)
      exact hX ((by decide +kernel : ∀ t : Fin grid0.N, win0_5.flush t = true → 4 ≤ t.val) t hf) y
    · refine Dat.arrAt_eq_of_covers _ 6 _ (by decide +kernel) fun t hf y => ?_
      have hX := Dat.toRRel_leaves (dats m 0 c) (fgt := held0) (Rl := rel0 m c) (w := 6) rfl (hL 6 t hf)
      exact hX ((by decide +kernel : ∀ t : Fin grid0.N, win0_6.flush t = true → 4 ≤ t.val) t hf) y
    · refine Dat.arrAt_eq_of_covers _ 7 _ (by decide +kernel) fun t hf y => ?_
      have hX := Dat.toRRel_leaves (dats m 0 c) (fgt := held0) (Rl := rel0 m c) (w := 7) rfl (hL 7 t hf)
      exact hX ((by decide +kernel : ∀ t : Fin grid0.N, win0_7.flush t = true → 4 ≤ t.val) t hf) y
    · refine Dat.arrAt_eq_of_covers _ 8 _ (by decide +kernel) fun t hf y => ?_
      have hX := Dat.toRRel_leaves (dats m 0 c) (fgt := held0) (Rl := rel0 m c) (w := 8) rfl (hL 8 t hf)
      exact hX ((by decide +kernel : ∀ t : Fin grid0.N, win0_8.flush t = true → 4 ≤ t.val) t hf) y
    · refine Dat.arrAt_eq_of_covers _ 9 _ (by decide +kernel) fun t hf y => ?_
      have hX := Dat.toRRel_leaves (dats m 0 c) (fgt := held0) (Rl := rel0 m c) (w := 9) rfl (hL 9 t hf)
      exact hX ((by decide +kernel : ∀ t : Fin grid0.N, win0_9.flush t = true → 4 ≤ t.val) t hf) y
    · refine Dat.arrAt_eq_of_covers _ 10 _ (by decide +kernel) fun t hf y => ?_
      have hX := Dat.toRRel_leaves (dats m 0 c) (fgt := held0) (Rl := rel0 m c) (w := 10) rfl (hL 10 t hf)
      exact hX ((by decide +kernel : ∀ t : Fin grid0.N, win0_10.flush t = true → 4 ≤ t.val) t hf) y
    · refine Dat.arrAt_eq_of_covers _ 11 _ (by decide +kernel) fun t hf y => ?_
      have hX := Dat.toRRel_leaves (dats m 0 c) (fgt := held0) (Rl := rel0 m c) (w := 11) rfl (hL 11 t hf)
      exact hX ((by decide +kernel : ∀ t : Fin grid0.N, win0_11.flush t = true → 4 ≤ t.val) t hf) y
    · refine Dat.arrAt_eq_of_covers _ 12 _ (by decide +kernel) fun t hf y => ?_
      have hX := Dat.toRRel_leaves (dats m 0 c) (fgt := held0) (Rl := rel0 m c) (w := 12) rfl (hL 12 t hf)
      exact hX ((by decide +kernel : ∀ t : Fin grid0.N, win0_12.flush t = true → 4 ≤ t.val) t hf) y
    · refine Dat.arrAt_eq_of_covers _ 13 _ (by decide +kernel) fun t hf y => ?_
      have hX := Dat.toRRel_leaves (dats m 0 c) (fgt := held0) (Rl := rel0 m c) (w := 13) rfl (hL 13 t hf)
      exact hX ((by decide +kernel : ∀ t : Fin grid0.N, win0_13.flush t = true → 4 ≤ t.val) t hf) y
    ) (run_main_quiescent m ρ)

/-- The frame: the arguments end unchanged and every counter is at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2.2.2.2.2.2.2.2.2) (run_blocks m ρ)) ((θ_run defs _ _).mono (fun _ h => h.2) (run_main_quiescent m ρ))

end Cert.ProjIdeal.Own

end
-- ==== Proof.lean ====
module

public import proofs.«01_k».proof.Defs
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.GateRefIdeal.Read
public import proofs.«01_k».proof.Proof.GateBits
public import proofs.«01_k».proof.Proof.GateValue
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Run
public import proofs.«01_k».proof.Proof.Gen.DownRefIdeal.Read
public import proofs.«01_k».proof.Proof.DownBits
public import proofs.«01_k».proof.Proof.DownFrame
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.ProjBits
public import proofs.«01_k».proof.Proof.ProjFrame
public import Idealize.ShloMosaic.Adequacy
public import Idealize.ShloMosaic.Init

@[expose] public section

noncomputable section

set_option maxRecDepth 16384

namespace Cert.Proof

open Idealize.ShloMosaic Idealize.SL.Sem Cert.Gate

/-- The gate and up call runs to its end, whatever the float values. -/
theorem gate_frame : Cert.quiescent_Gate := by
  intro m g _
  exact Cert.Gate.Own.frame m g

/-- So does its idealization. -/
theorem gate_ideal_frame : Cert.quiescent_GateIdeal := by
  intro m g _
  exact Cert.GateIdeal.Own.frame m g

/-- So does its reference. -/
theorem gate_ref_frame : Cert.quiescent_GateRefIdeal := by
  intro m g _
  exact (θ_run _ _ _).mono (fun r h => ⟨fun c => (h c).2, sem_eq_zero_of_no_sems rfl _⟩) (Cert.GateRefIdeal.Value.run m g)

/-- The gate and up call's activations are the reference's. -/
theorem gate_value : Cert.algebraic_GateIdeal_GateRefIdeal := by
  pair_intro
  · run_from Cert.GateIdeal.Own.run_blocks m g
  · run_from Cert.GateRefIdeal.Value.run m' g'
    exact (Cert.GateIdeal.Own.final m c).symm

/-- The down projection runs to its end, whatever the float values. -/
theorem down_frame : Cert.quiescent_Down := by
  intro m g _
  exact Cert.Down.Own.frame m g

/-- So does its idealization. -/
theorem down_ideal_frame : Cert.quiescent_DownIdeal := by
  intro m g _
  exact Cert.DownIdeal.Own.frame m g

/-- So does its reference. -/
theorem down_ref_frame : Cert.quiescent_DownRefIdeal := by
  intro m g _
  exact (θ_run _ _ _).mono (fun r h => ⟨fun c => (h c).2.2.2.2, sem_eq_zero_of_no_sems rfl _⟩) (Cert.DownRefIdeal.Value.run m g)

/-- The down projection's four results are the reference's. -/
theorem down_value : Cert.algebraic_DownIdeal_DownRefIdeal := by
  intro m g m' g' _ hagree
  refine ⟨fun c => Cert.DownIdeal.Own.goal6 m c, fun c => Cert.DownIdeal.Own.goal7 m c, fun c => Cert.DownIdeal.Own.goal8 m c, fun c => Cert.DownIdeal.Own.goal9 m c,
    Cert.DownIdeal.Own.run_blocks m g, (θ_run _ _ _).mono (fun r h c => ?_) (Cert.DownRefIdeal.Value.run m' g')⟩
  obtain ⟨h73, h26, h74, h75, hargs⟩ := h c
  obtain ⟨a0, a1, a2, a3, a4, a5⟩ := hagree c
  refine ⟨h73.trans ?_, h26.trans ?_, h74.trans ?_, h75.trans ?_, hargs⟩
  · show _ = Cert.DownIdeal.Own.goal6 m c
    refine (Cert.DownRefIdeal.Read.val_main_v73_eq m' c).trans ?_
    unfold Cert.DownIdeal.Own.goal6
    rw [a0, a1, a2, a3, a4, a5]
  · show _ = Cert.DownIdeal.Own.goal7 m c
    unfold Cert.DownIdeal.Own.goal7
    rw [← a0, ← a1, ← a2]
    exact Cert.DownRefIdeal.Read.val_main_v26_eq _ _ _
  · show _ = Cert.DownIdeal.Own.goal8 m c
    unfold Cert.DownIdeal.Own.goal8
    rw [← a1, ← a2]
    exact Cert.DownRefIdeal.Read.val_main_v74_eq _ _
  · show _ = Cert.DownIdeal.Own.goal9 m c
    unfold Cert.DownIdeal.Own.goal9
    rw [← a1, ← a2]
    exact Cert.DownRefIdeal.Read.val_main_v75_eq _ _

/-- The output projection runs to its end, whatever the float values. -/
theorem proj_frame : Cert.quiescent_Proj := by
  intro m g _
  exact Cert.Proj.Own.frame m g

/-- So does its idealization. -/
theorem proj_ideal_frame : Cert.quiescent_ProjIdeal := by
  intro m g _
  exact Cert.ProjIdeal.Own.frame m g

/-- So does its reference. -/
theorem proj_ref_frame : Cert.quiescent_ProjRefIdeal := by
  intro m g _
  exact (θ_run _ _ _).mono (fun r h => ⟨fun c => (h c).2.2.2.2.2.2.2.2.2, sem_eq_zero_of_no_sems rfl _⟩) (Cert.ProjRefIdeal.Value.run m g)

/-- The output projection's nine results are the reference's. -/
theorem proj_value : Cert.algebraic_ProjIdeal_ProjRefIdeal := by
  intro m g m' g' _ hagree
  refine ⟨fun c => Cert.ProjIdeal.Own.goal5 m c, fun c => Cert.ProjIdeal.Own.goal6 m c, fun c => Cert.ProjIdeal.Own.goal7 m c, fun c => Cert.ProjIdeal.Own.goal8 m c, fun c => Cert.ProjIdeal.Own.goal9 m c, fun c => Cert.ProjIdeal.Own.goal10 m c, fun c => Cert.ProjIdeal.Own.goal11 m c, fun c => Cert.ProjIdeal.Own.goal12 m c, fun c => Cert.ProjIdeal.Own.goal13 m c,
    Cert.ProjIdeal.Own.run_blocks m g, (θ_run _ _ _).mono (fun r h c => ?_) (Cert.ProjRefIdeal.Value.run m' g')⟩
  obtain ⟨h73, h26, h117, h118, h113, h124, h125, h126, h116, hargs⟩ := h c
  obtain ⟨a0, a1, a2, a3, a4⟩ := hagree c
  refine ⟨h73.trans ?_, h26.trans ?_, h117.trans ?_, h118.trans ?_, h113.trans ?_, h124.trans ?_, h125.trans ?_, h126.trans ?_, h116.trans ?_, hargs⟩
  · show _ = Cert.ProjIdeal.Own.goal5 m c
    unfold Cert.ProjIdeal.Own.goal5
    rw [← a0, ← a1, ← a3, ← a4]
    exact Cert.ProjRefIdeal.Read.val_main_v73_eq _
  · show _ = Cert.ProjIdeal.Own.goal6 m c
    unfold Cert.ProjIdeal.Own.goal6
    rw [← a0]
    exact Cert.ProjRefIdeal.Read.val_main_v26_eq _
  · show _ = Cert.ProjIdeal.Own.goal7 m c
    unfold Cert.ProjIdeal.Own.goal7
    rw [← a0]
    exact Cert.ProjRefIdeal.Read.val_main_v117_eq _
  · show _ = Cert.ProjIdeal.Own.goal8 m c
    unfold Cert.ProjIdeal.Own.goal8
    rw [← a0]
    exact Cert.ProjRefIdeal.Read.val_main_v118_eq _
  · show _ = Cert.ProjIdeal.Own.goal9 m c
    unfold Cert.ProjIdeal.Own.goal9
    rw [← a0, ← a1, ← a2, ← a3, ← a4]
    exact Cert.ProjRefIdeal.Read.val_main_v113_eq _
  · show _ = Cert.ProjIdeal.Own.goal10 m c
    unfold Cert.ProjIdeal.Own.goal10
    rw [← a0, ← a1, ← a2, ← a3, ← a4]
    exact Cert.ProjRefIdeal.Read.val_main_v124_eq _
  · show _ = Cert.ProjIdeal.Own.goal11 m c
    unfold Cert.ProjIdeal.Own.goal11
    rw [← a0, ← a1, ← a2, ← a3, ← a4]
    exact Cert.ProjRefIdeal.Read.val_main_v125_eq _
  · show _ = Cert.ProjIdeal.Own.goal12 m c
    unfold Cert.ProjIdeal.Own.goal12
    rw [← a0, ← a1, ← a2, ← a3, ← a4]
    exact Cert.ProjRefIdeal.Read.val_main_v126_eq _
  · show _ = Cert.ProjIdeal.Own.goal13 m c
    unfold Cert.ProjIdeal.Own.goal13
    rw [← a0, ← a1, ← a2, ← a3, ← a4]
    exact Cert.ProjRefIdeal.Read.val_main_v116_eq _

theorem claim : Cert.Claim := ⟨Cert.Gate.Gen.facts, Cert.GateIdeal.Gen.facts, Cert.GateRefIdeal.Gen.facts,
    Cert.Down.Gen.facts, Cert.DownIdeal.Gen.facts, Cert.DownRefIdeal.Gen.facts,
    Cert.Proj.Gen.facts, Cert.ProjIdeal.Gen.facts, Cert.ProjRefIdeal.Gen.facts, by
  refine ⟨?_, ?_, ?_, ?_, ?_, ?_, ?_, ?_, ?_, ?_, ?_, ?_, ?_, ?_, ?_⟩
  · exact gate_frame
  · exact gate_ideal_frame
  · exact gate_ref_frame
  · exact down_frame
  · exact down_ideal_frame
  · exact down_ref_frame
  · exact proj_frame
  · exact proj_ideal_frame
  · exact proj_ref_frame
  · trivial
  · exact gate_value
  · trivial
  · exact down_value
  · trivial
  · exact proj_value⟩

end Cert.Proof

end
